-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_fixed_indices [hPre_fixed_indices : Cert.Pre_fixed_indices.Facts] (m : (ℓ : Loc Cert.KernelIdeal.nD Cert.KernelIdeal.τ Cert.KernelIdeal.sig) → Buf (Elt Ideal) ℓ) : Prop :=
  ∀ c : Dev Cert.KernelIdeal.nD,
    (Cert.Pre_fixed_indices.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_fixed_indices [hPre_fixed_indices : Cert.Pre_fixed_indices.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_fixed_indices.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_fixed_indices [hKernelIdeal : Cert.KernelIdeal.Facts] [hPre_fixed_indices : Cert.Pre_fixed_indices.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_fixed_indices m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_fixed_indices [hReferenceIdeal : Cert.ReferenceIdeal.Facts] [hPre_fixed_indices : Cert.Pre_fixed_indices.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_fixed_indices m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_fixed_indices [hKernelIdeal : Cert.KernelIdeal.Facts] [hReferenceIdeal : Cert.ReferenceIdeal.Facts] [hPre_fixed_indices : Cert.Pre_fixed_indices.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_fixed_indices m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_fixed_indices : Cert.Pre_fixed_indices.Facts),
    quiescent_Kernel (hKernel := hKernel)
    ∧ quiescent_KernelIdeal (hKernelIdeal := hKernelIdeal)
    ∧ quiescent_KernelIdeal_pre_fixed_indices (hKernelIdeal := hKernelIdeal) (hPre_fixed_indices := hPre_fixed_indices)
    ∧ quiescent_ReferenceIdeal (hReferenceIdeal := hReferenceIdeal)
    ∧ quiescent_ReferenceIdeal_pre_fixed_indices (hReferenceIdeal := hReferenceIdeal) (hPre_fixed_indices := hPre_fixed_indices)
    ∧ preserves_Kernel_KernelIdeal
    ∧ algebraic_KernelIdeal_ReferenceIdeal_pre_fixed_indices (hKernelIdeal := hKernelIdeal) (hReferenceIdeal := hReferenceIdeal) (hPre_fixed_indices := hPre_fixed_indices)
-- ==== Pre_fixed_indices.lean ====
abbrev S8x96x112x112 : Shape := ⟨4, ![8, 96, 112, 112]⟩
abbrev S112x112 : Shape := ⟨2, ![112, 112]⟩
abbrev S_ : Shape := ⟨0, ![]⟩

class Facts : Prop where
  bcast_S_S112x112 : S_.BroadcastsInDim S112x112 (![] : Fin 0 → Fin S112x112.rank)
  reducesTo_S112x112_S_d0_1 : S112x112.ReducesTo [0, 1] S_
  h_S_ : 0 < S_.numel

variable [Facts]

def fn {F : FTy → Type} [FloatOps F] (main_arg0 : FVec F S8x96x112x112 .f32) (main_arg1 : IVec S112x112 32) : IVec S_ 1 :=
  let main_v0 : IVec S112x112 32 := iotaInDim S112x112 32 0
  let main_v1 : IVec S112x112 32 := iotaInDim S112x112 32 1
  let main_c : IVec S_ 32 := constantI S_ 32 2#32
  let main_v2 : IVec S112x112 32 := broadcastInDim S112x112 ![] bcast_S_S112x112 main_c
  let main_v3 : IVec S112x112 32 := muli main_v0 main_v2
  let main_c_0 : IVec S_ 32 := constantI S_ 32 2#32
  let main_v4 : IVec S112x112 32 := broadcastInDim S112x112 ![] bcast_S_S112x112 main_c_0
  let main_v5 : IVec S112x112 32 := muli main_v3 main_v4
  let main_c_1 : IVec S_ 32 := constantI S_ 32 112#32
  let main_v6 : IVec S112x112 32 := broadcastInDim S112x112 ![] bcast_S_S112x112 main_c_1
  let main_v7 : IVec S112x112 32 := muli main_v5 main_v6
  let main_c_2 : IVec S_ 32 := constantI S_ 32 2#32
  let main_v8 : IVec S112x112 32 := broadcastInDim S112x112 ![] bcast_S_S112x112 main_c_2
  let main_v9 : IVec S112x112 32 := muli main_v1 main_v8
  let main_v10 : IVec S112x112 32 := addi main_v7 main_v9
  let main_v11 : IVec S112x112 1 := cmpi .eq main_arg1 main_v10
  let main_c_3 : IVec S_ 1 := constantI S_ 1 1#1
  let main_v12 : IVec S_ 1 := (fun x v => Host.reduce IntOp.andi x v reducesTo_S112x112_S_d0_1 h_S_) main_v11 main_c_3
  main_v12
-- ==== Kernel.lean ====
abbrev S8x96x112x112 : Shape := ⟨4, ![8, 96, 112, 112]⟩
abbrev S112x112 : Shape := ⟨2, ![112, 112]⟩
abbrev S768x112x112 : Shape := ⟨3, ![768, 112, 112]⟩
abbrev S768x224x224 : Shape := ⟨3, ![768, 224, 224]⟩
abbrev S2x112x112 : Shape := ⟨3, ![2, 112, 112]⟩
abbrev S2x112x224 : Shape := ⟨3, ![2, 112, 224]⟩
abbrev S2 : Shape := ⟨1, ![2]⟩
abbrev S1x112x112 : Shape := ⟨3, ![1, 112, 112]⟩
abbrev S1 : Shape := ⟨1, ![1]⟩
abbrev S_ : Shape := ⟨0, ![]⟩
abbrev S16 : Shape := ⟨1, ![16]⟩
abbrev S1x1x16 : Shape := ⟨3, ![1, 1, 16]⟩
abbrev S1x112x224 : Shape := ⟨3, ![1, 112, 224]⟩
abbrev S112x224 : Shape := ⟨2, ![112, 224]⟩
abbrev S8x96x224x224 : Shape := ⟨4, ![8, 96, 224, 224]⟩

abbrev nBuf : Table → Nat
  | .hbm => 5
  | .local .scVector .vmem => 2
  | _ => 0

abbrev bufTy : (tb : Table) → Fin (nBuf tb) → BufTy
  | .hbm, ⟨0, _⟩ => ⟨S8x96x112x112, .f32⟩
  | .hbm, ⟨1, _⟩ => ⟨S112x112, .i32⟩
  | .hbm, ⟨2, _⟩ => ⟨S768x112x112, .f32⟩
  | .hbm, ⟨3, _⟩ => ⟨S768x224x224, .f32⟩
  | .hbm, ⟨4, _⟩ => ⟨S8x96x224x224, .f32⟩
  | .local .scVector .vmem, ⟨0, _⟩ => ⟨S2x112x112, .f32⟩
  | .local .scVector .vmem, ⟨1, _⟩ => ⟨S2x112x224, .f32⟩
  | _, _ => ⟨S8x96x112x112, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v0_scv : Ref sig .scVector := ⟨.hbm, 2, rfl⟩
abbrev main_v1_scv : Ref sig .scVector := ⟨.hbm, 3, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c24_i32 : BitVec 32 := 24#32
  let v2 : BitVec 32 := Scalar.muli v1 c24_i32
  let c0_i32_3 : BitVec 32 := 0#32
  let c0_i32_4 : BitVec 32 := 0#32
  ![v2.toNat, 0, 0]
def k0_off2 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c24_i32 : BitVec 32 := 24#32
  let v2 : BitVec 32 := Scalar.muli v1 c24_i32
  let c1_i32 : BitVec 32 := 1#32
  let v13 : BitVec 32 := Scalar.addi v2 c1_i32
  let c0_i32_13 : BitVec 32 := 0#32
  let c0_i32_14 : BitVec 32 := 0#32
  ![v13.toNat, 0, 0]
@[reducible] def k0_t1_loop : Scf.Loop 32 :=
  let c0_i32_19 : BitVec 32 := 0#32
  let c56_i32 : BitVec 32 := 56#32
  let v25 : BitVec 32 := Scalar.addi c0_i32_19 c56_i32
  let c1_i32_20 : BitVec 32 := 1#32
  ⟨c0_i32_19, v25, c1_i32_20⟩
def k0_off3 (k0_t1 : Fin k0_t1_loop.trips) : Fin 3 → Nat :=
  let c0_i32_60 : BitVec 32 := 0#32
  let v66 : Index := Scalar.indexCast c0_i32_60
  let c2_i32_58 : BitVec 32 := 2#32
  let c0_i32_57 : BitVec 32 := 0#32
  let c0_i32_19 : BitVec 32 := 0#32
  let c1_i32_20 : BitVec 32 := 1#32
  let arg8 : BitVec 32 := Scf.iv c0_i32_19 c1_i32_20 k0_t1
  let c1_i32_56 : BitVec 32 := 1#32
  let v62 : BitVec 32 := Scalar.muli arg8 c1_i32_56
  let v63 : BitVec 32 := Scalar.addi c0_i32_57 v62
  let v64 : BitVec 32 := Scalar.muli c2_i32_58 v63
  let c1_i32_59 : BitVec 32 := 1#32
  let v65 : BitVec 32 := Scalar.addi v64 c1_i32_59
  let v67 : Index := Scalar.indexCast v65
  let c0 : Index := 0#32
  ![0, v67.toNat, 0]
def k0_off4 (k0_t1 : Fin k0_t1_loop.trips) : Fin 3 → Nat :=
  let c0_i32_63 : BitVec 32 := 0#32
  let v71 : Index := Scalar.indexCast c0_i32_63
  let c2_i32_61 : BitVec 32 := 2#32
  let c0_i32_57 : BitVec 32 := 0#32
  let c0_i32_19 : BitVec 32 := 0#32
  let c1_i32_20 : BitVec 32 := 1#32
  let arg8 : BitVec 32 := Scf.iv c0_i32_19 c1_i32_20 k0_t1
  let c1_i32_56 : BitVec 32 := 1#32
  let v62 : BitVec 32 := Scalar.muli arg8 c1_i32_56
  let v63 : BitVec 32 := Scalar.addi c0_i32_57 v62
  let v69 : BitVec 32 := Scalar.muli c2_i32_61 v63
  let c1_i32_62 : BitVec 32 := 1#32
  let v70 : BitVec 32 := Scalar.addi v69 c1_i32_62
  let v72 : Index := Scalar.indexCast v70
  let c16 : Index := 16#32
  ![0, v72.toNat, 16]
def k0_off5 (k0_t1 : Fin k0_t1_loop.trips) : Fin 3 → Nat :=
  let c0_i32_66 : BitVec 32 := 0#32
  let v76 : Index := Scalar.indexCast c0_i32_66
  let c2_i32_64 : BitVec 32 := 2#32
  let c0_i32_57 : BitVec 32 := 0#32
  let c0_i32_19 : BitVec 32 := 0#32
  let c1_i32_20 : BitVec 32 := 1#32
  let arg8 : BitVec 32 := Scf.iv c0_i32_19 c1_i32_20 k0_t1
  let c1_i32_56 : BitVec 32 := 1#32
  let v62 : BitVec 32 := Scalar.muli arg8 c1_i32_56
  let v63 : BitVec 32 := Scalar.addi c0_i32_57 v62
  let v74 : BitVec 32 := Scalar.muli c2_i32_64 v63
  let c1_i32_65 : BitVec 32 := 1#32
  let v75 : BitVec 32 := Scalar.addi v74 c1_i32_65
  let v77 : Index := Scalar.indexCast v75
  let c32 : Index := 32#32
  ![0, v77.toNat, 32]
def k0_off6 (k0_t1 : Fin k0_t1_loop.trips) : Fin 3 → Nat :=
  let c0_i32_69 : BitVec 32 := 0#32
  let v81 : Index := Scalar.indexCast c0_i32_69
  let c2_i32_67 : BitVec 32 := 2#32
  let c0_i32_57 : BitVec 32 := 0#32
  let c0_i32_19 : BitVec 32 := 0#32
  let c1_i32_20 : BitVec 32 := 1#32
  let arg8 : BitVec 32 := Scf.iv c0_i32_19 c1_i32_20 k0_t1
  let c1_i32_56 : BitVec 32 := 1#32
  let v62 : BitVec 32 := Scalar.muli arg8 c1_i32_56
  let v63 : BitVec 32 := Scalar.addi c0_i32_57 v62
  let v79 : BitVec 32 := Scalar.muli c2_i32_67 v63
  let c1_i32_68 : BitVec 32 := 1#32
  let v80 : BitVec 32 := Scalar.addi v79 c1_i32_68
  let v82 : Index := Scalar.indexCast v80
  let c48 : Index := 48#32
  ![0, v82.toNat, 48]
def k0_off7 (k0_t1 : Fin k0_t1_loop.trips) : Fin 3 → Nat :=
  let c0_i32_72 : BitVec 32 := 0#32
  let v86 : Index := Scalar.indexCast c0_i32_72
  let c2_i32_70 : BitVec 32 := 2#32
  let c0_i32_57 : BitVec 32 := 0#32
  let c0_i32_19 : BitVec 32 := 0#32
  let c1_i32_20 : BitVec 32 := 1#32
  let arg8 : BitVec 32 := Scf.iv c0_i32_19 c1_i32_20 k0_t1
  let c1_i32_56 : BitVec 32 := 1#32
  let v62 : BitVec 32 := Scalar.muli arg8 c1_i32_56
  let v63 : BitVec 32 := Scalar.addi c0_i32_57 v62
  let v84 : BitVec 32 := Scalar.muli c2_i32_70 v63
  let c1_i32_71 : BitVec 32 := 1#32
  let v85 : BitVec 32 := Scalar.addi v84 c1_i32_71
  let v87 : Index := Scalar.indexCast v85
  let c64 : Index := 64#32
  ![0, v87.toNat, 64]
def k0_off8 (k0_t1 : Fin k0_t1_loop.trips) : Fin 3 → Nat :=
  let c0_i32_75 : BitVec 32 := 0#32
  let v91 : Index := Scalar.indexCast c0_i32_75
  let c2_i32_73 : BitVec 32 := 2#32
  let c0_i32_57 : BitVec 32 := 0#32
  let c0_i32_19 : BitVec 32 := 0#32
  let c1_i32_20 : BitVec 32 := 1#32
  let arg8 : BitVec 32 := Scf.iv c0_i32_19 c1_i32_20 k0_t1
  let c1_i32_56 : BitVec 32 := 1#32
  let v62 : BitVec 32 := Scalar.muli arg8 c1_i32_56
  let v63 : BitVec 32 := Scalar.addi c0_i32_57 v62
  let v89 : BitVec 32 := Scalar.muli c2_i32_73 v63
  let c1_i32_74 : BitVec 32 := 1#32
  let v90 : BitVec 32 := Scalar.addi v89 c1_i32_74
  let v92 : Index := Scalar.indexCast v90
  let c80 : Index := 80#32
  ![0, v92.toNat, 80]
def k0_off9 (k0_t1 : Fin k0_t1_loop.trips) : Fin 3 → Nat :=
  let c0_i32_78 : BitVec 32 := 0#32
  let v96 : Index := Scalar.indexCast c0_i32_78
  let c2_i32_76 : BitVec 32 := 2#32
  let c0_i32_57 : BitVec 32 := 0#32
  let c0_i32_19 : BitVec 32 := 0#32
  let c1_i32_20 : BitVec 32 := 1#32
  let arg8 : BitVec 32 := Scf.iv c0_i32_19 c1_i32_20 k0_t1
  let c1_i32_56 : BitVec 32 := 1#32
  let v62 : BitVec 32 := Scalar.muli arg8 c1_i32_56
  let v63 : BitVec 32 := Scalar.addi c0_i32_57 v62
  let v94 : BitVec 32 := Scalar.muli c2_i32_76 v63
  let c1_i32_77 : BitVec 32 := 1#32
  let v95 : BitVec 32 := Scalar.addi v94 c1_i32_77
  let v97 : Index := Scalar.indexCast v95
  let c96 : Index := 96#32
  ![0, v97.toNat, 96]
def k0_off10 (k0_t1 : Fin k0_t1_loop.trips) : Fin 3 → Nat :=
  let c0_i32_81 : BitVec 32 := 0#32
  let v101 : Index := Scalar.indexCast c0_i32_81
  let c2_i32_79 : BitVec 32 := 2#32
  let c0_i32_57 : BitVec 32 := 0#32
  let c0_i32_19 : BitVec 32 := 0#32
  let c1_i32_20 : BitVec 32 := 1#32
  let arg8 : BitVec 32 := Scf.iv c0_i32_19 c1_i32_20 k0_t1
  let c1_i32_56 : BitVec 32 := 1#32
  let v62 : BitVec 32 := Scalar.muli arg8 c1_i32_56
  let v63 : BitVec 32 := Scalar.addi c0_i32_57 v62
  let v99 : BitVec 32 := Scalar.muli c2_i32_79 v63
  let c1_i32_80 : BitVec 32 := 1#32
  let v100 : BitVec 32 := Scalar.addi v99 c1_i32_80
  let v102 : Index := Scalar.indexCast v100
  let c112 : Index := 112#32
  ![0, v102.toNat, 112]
def k0_off11 (k0_t1 : Fin k0_t1_loop.trips) : Fin 3 → Nat :=
  let c0_i32_84 : BitVec 32 := 0#32
  let v106 : Index := Scalar.indexCast c0_i32_84
  let c2_i32_82 : BitVec 32 := 2#32
  let c0_i32_57 : BitVec 32 := 0#32
  let c0_i32_19 : BitVec 32 := 0#32
  let c1_i32_20 : BitVec 32 := 1#32
  let arg8 : BitVec 32 := Scf.iv c0_i32_19 c1_i32_20 k0_t1
  let c1_i32_56 : BitVec 32 := 1#32
  let v62 : BitVec 32 := Scalar.muli arg8 c1_i32_56
  let v63 : BitVec 32 := Scalar.addi c0_i32_57 v62
  let v104 : BitVec 32 := Scalar.muli c2_i32_82 v63
  let c1_i32_83 : BitVec 32 := 1#32
  let v105 : BitVec 32 := Scalar.addi v104 c1_i32_83
  let v107 : Index := Scalar.indexCast v105
  let c128 : Index := 128#32
  ![0, v107.toNat, 128]
def k0_off12 (k0_t1 : Fin k0_t1_loop.trips) : Fin 3 → Nat :=
  let c0_i32_87 : BitVec 32 := 0#32
  let v111 : Index := Scalar.indexCast c0_i32_87
  let c2_i32_85 : BitVec 32 := 2#32
  let c0_i32_57 : BitVec 32 := 0#32
  let c0_i32_19 : BitVec 32 := 0#32
  let c1_i32_20 : BitVec 32 := 1#32
  let arg8 : BitVec 32 := Scf.iv c0_i32_19 c1_i32_20 k0_t1
  let c1_i32_56 : BitVec 32 := 1#32
  let v62 : BitVec 32 := Scalar.muli arg8 c1_i32_56
  let v63 : BitVec 32 := Scalar.addi c0_i32_57 v62
  let v109 : BitVec 32 := Scalar.muli c2_i32_85 v63
  let c1_i32_86 : BitVec 32 := 1#32
  let v110 : BitVec 32 := Scalar.addi v109 c1_i32_86
  let v112 : Index := Scalar.indexCast v110
  let c144 : Index := 144#32
  ![0, v112.toNat, 144]
def k0_off13 (k0_t1 : Fin k0_t1_loop.trips) : Fin 3 → Nat :=
  let c0_i32_90 : BitVec 32 := 0#32
  let v116 : Index := Scalar.indexCast c0_i32_90
  let c2_i32_88 : BitVec 32 := 2#32
  let c0_i32_57 : BitVec 32 := 0#32
  let c0_i32_19 : BitVec 32 := 0#32
  let c1_i32_20 : BitVec 32 := 1#32
  let arg8 : BitVec 32 := Scf.iv c0_i32_19 c1_i32_20 k0_t1
  let c1_i32_56 : BitVec 32 := 1#32
  let v62 : BitVec 32 := Scalar.muli arg8 c1_i32_56
  let v63 : BitVec 32 := Scalar.addi c0_i32_57 v62
  let v114 : BitVec 32 := Scalar.muli c2_i32_88 v63
  let c1_i32_89 : BitVec 32 := 1#32
  let v115 : BitVec 32 := Scalar.addi v114 c1_i32_89
  let v117 : Index := Scalar.indexCast v115
  let c160 : Index := 160#32
  ![0, v117.toNat, 160]
def k0_off14 (k0_t1 : Fin k0_t1_loop.trips) : Fin 3 → Nat :=
  let c0_i32_93 : BitVec 32 := 0#32
  let v121 : Index := Scalar.indexCast c0_i32_93
  let c2_i32_91 : BitVec 32 := 2#32
  let c0_i32_57 : BitVec 32 := 0#32
  let c0_i32_19 : BitVec 32 := 0#32
  let c1_i32_20 : BitVec 32 := 1#32
  let arg8 : BitVec 32 := Scf.iv c0_i32_19 c1_i32_20 k0_t1
  let c1_i32_56 : BitVec 32 := 1#32
  let v62 : BitVec 32 := Scalar.muli arg8 c1_i32_56
  let v63 : BitVec 32 := Scalar.addi c0_i32_57 v62
  let v119 : BitVec 32 := Scalar.muli c2_i32_91 v63
  let c1_i32_92 : BitVec 32 := 1#32
  let v120 : BitVec 32 := Scalar.addi v119 c1_i32_92
  let v122 : Index := Scalar.indexCast v120
  let c176 : Index := 176#32
  ![0, v122.toNat, 176]
def k0_off15 (k0_t1 : Fin k0_t1_loop.trips) : Fin 3 → Nat :=
  let c0_i32_96 : BitVec 32 := 0#32
  let v126 : Index := Scalar.indexCast c0_i32_96
  let c2_i32_94 : BitVec 32 := 2#32
  let c0_i32_57 : BitVec 32 := 0#32
  let c0_i32_19 : BitVec 32 := 0#32
  let c1_i32_20 : BitVec 32 := 1#32
  let arg8 : BitVec 32 := Scf.iv c0_i32_19 c1_i32_20 k0_t1
  let c1_i32_56 : BitVec 32 := 1#32
  let v62 : BitVec 32 := Scalar.muli arg8 c1_i32_56
  let v63 : BitVec 32 := Scalar.addi c0_i32_57 v62
  let v124 : BitVec 32 := Scalar.muli c2_i32_94 v63
  let c1_i32_95 : BitVec 32 := 1#32
  let v125 : BitVec 32 := Scalar.addi v124 c1_i32_95
  let v127 : Index := Scalar.indexCast v125
  let c192 : Index := 192#32
  ![0, v127.toNat, 192]
def k0_off16 (k0_t1 : Fin k0_t1_loop.trips) : Fin 3 → Nat :=
  let c0_i32_99 : BitVec 32 := 0#32
  let v131 : Index := Scalar.indexCast c0_i32_99
  let c2_i32_97 : BitVec 32 := 2#32
  let c0_i32_57 : BitVec 32 := 0#32
  let c0_i32_19 : BitVec 32 := 0#32
  let c1_i32_20 : BitVec 32 := 1#32
  let arg8 : BitVec 32 := Scf.iv c0_i32_19 c1_i32_20 k0_t1
  let c1_i32_56 : BitVec 32 := 1#32
  let v62 : BitVec 32 := Scalar.muli arg8 c1_i32_56
  let v63 : BitVec 32 := Scalar.addi c0_i32_57 v62
  let v129 : BitVec 32 := Scalar.muli c2_i32_97 v63
  let c1_i32_98 : BitVec 32 := 1#32
  let v130 : BitVec 32 := Scalar.addi v129 c1_i32_98
  let v132 : Index := Scalar.indexCast v130
  let c208 : Index := 208#32
  ![0, v132.toNat, 208]
@[reducible] def k0_t2_loop : Scf.Loop 32 :=
  let c0_i32_22 : BitVec 32 := 0#32
  let c56_i32_23 : BitVec 32 := 56#32
  let v26 : BitVec 32 := Scalar.addi c0_i32_22 c56_i32_23
  let c1_i32_24 : BitVec 32 := 1#32
  ⟨c0_i32_22, v26, c1_i32_24⟩
def k0_off17 (k0_t2 : Fin k0_t2_loop.trips) : Fin 3 → Nat :=
  let c1_i32_60 : BitVec 32 := 1#32
  let v66 : Index := Scalar.indexCast c1_i32_60
  let c2_i32_58 : BitVec 32 := 2#32
  let c0_i32_57 : BitVec 32 := 0#32
  let c0_i32_22 : BitVec 32 := 0#32
  let c1_i32_24 : BitVec 32 := 1#32
  let arg8 : BitVec 32 := Scf.iv c0_i32_22 c1_i32_24 k0_t2
  let c1_i32_56 : BitVec 32 := 1#32
  let v62 : BitVec 32 := Scalar.muli arg8 c1_i32_56
  let v63 : BitVec 32 := Scalar.addi c0_i32_57 v62
  let v64 : BitVec 32 := Scalar.muli c2_i32_58 v63
  let c1_i32_59 : BitVec 32 := 1#32
  let v65 : BitVec 32 := Scalar.addi v64 c1_i32_59
  let v67 : Index := Scalar.indexCast v65
  let c0 : Index := 0#32
  ![1, v67.toNat, 0]
def k0_off18 (k0_t2 : Fin k0_t2_loop.trips) : Fin 3 → Nat :=
  let c1_i32_63 : BitVec 32 := 1#32
  let v71 : Index := Scalar.indexCast c1_i32_63
  let c2_i32_61 : BitVec 32 := 2#32
  let c0_i32_57 : BitVec 32 := 0#32
  let c0_i32_22 : BitVec 32 := 0#32
  let c1_i32_24 : BitVec 32 := 1#32
  let arg8 : BitVec 32 := Scf.iv c0_i32_22 c1_i32_24 k0_t2
  let c1_i32_56 : BitVec 32 := 1#32
  let v62 : BitVec 32 := Scalar.muli arg8 c1_i32_56
  let v63 : BitVec 32 := Scalar.addi c0_i32_57 v62
  let v69 : BitVec 32 := Scalar.muli c2_i32_61 v63
  let c1_i32_62 : BitVec 32 := 1#32
  let v70 : BitVec 32 := Scalar.addi v69 c1_i32_62
  let v72 : Index := Scalar.indexCast v70
  let c16 : Index := 16#32
  ![1, v72.toNat, 16]
def k0_off19 (k0_t2 : Fin k0_t2_loop.trips) : Fin 3 → Nat :=
  let c1_i32_66 : BitVec 32 := 1#32
  let v76 : Index := Scalar.indexCast c1_i32_66
  let c2_i32_64 : BitVec 32 := 2#32
  let c0_i32_57 : BitVec 32 := 0#32
  let c0_i32_22 : BitVec 32 := 0#32
  let c1_i32_24 : BitVec 32 := 1#32
  let arg8 : BitVec 32 := Scf.iv c0_i32_22 c1_i32_24 k0_t2
  let c1_i32_56 : BitVec 32 := 1#32
  let v62 : BitVec 32 := Scalar.muli arg8 c1_i32_56
  let v63 : BitVec 32 := Scalar.addi c0_i32_57 v62
  let v74 : BitVec 32 := Scalar.muli c2_i32_64 v63
  let c1_i32_65 : BitVec 32 := 1#32
  let v75 : BitVec 32 := Scalar.addi v74 c1_i32_65
  let v77 : Index := Scalar.indexCast v75
  let c32 : Index := 32#32
  ![1, v77.toNat, 32]
def k0_off20 (k0_t2 : Fin k0_t2_loop.trips) : Fin 3 → Nat :=
  let c1_i32_69 : BitVec 32 := 1#32
  let v81 : Index := Scalar.indexCast c1_i32_69
  let c2_i32_67 : BitVec 32 := 2#32
  let c0_i32_57 : BitVec 32 := 0#32
  let c0_i32_22 : BitVec 32 := 0#32
  let c1_i32_24 : BitVec 32 := 1#32
  let arg8 : BitVec 32 := Scf.iv c0_i32_22 c1_i32_24 k0_t2
  let c1_i32_56 : BitVec 32 := 1#32
  let v62 : BitVec 32 := Scalar.muli arg8 c1_i32_56
  let v63 : BitVec 32 := Scalar.addi c0_i32_57 v62
  let v79 : BitVec 32 := Scalar.muli c2_i32_67 v63
  let c1_i32_68 : BitVec 32 := 1#32
  let v80 : BitVec 32 := Scalar.addi v79 c1_i32_68
  let v82 : Index := Scalar.indexCast v80
  let c48 : Index := 48#32
  ![1, v82.toNat, 48]
def k0_off21 (k0_t2 : Fin k0_t2_loop.trips) : Fin 3 → Nat :=
  let c1_i32_72 : BitVec 32 := 1#32
  let v86 : Index := Scalar.indexCast c1_i32_72
  let c2_i32_70 : BitVec 32 := 2#32
  let c0_i32_57 : BitVec 32 := 0#32
  let c0_i32_22 : BitVec 32 := 0#32
  let c1_i32_24 : BitVec 32 := 1#32
  let arg8 : BitVec 32 := Scf.iv c0_i32_22 c1_i32_24 k0_t2
  let c1_i32_56 : BitVec 32 := 1#32
  let v62 : BitVec 32 := Scalar.muli arg8 c1_i32_56
  let v63 : BitVec 32 := Scalar.addi c0_i32_57 v62
  let v84 : BitVec 32 := Scalar.muli c2_i32_70 v63
  let c1_i32_71 : BitVec 32 := 1#32
  let v85 : BitVec 32 := Scalar.addi v84 c1_i32_71
  let v87 : Index := Scalar.indexCast v85
  let c64 : Index := 64#32
  ![1, v87.toNat, 64]
def k0_off22 (k0_t2 : Fin k0_t2_loop.trips) : Fin 3 → Nat :=
  let c1_i32_75 : BitVec 32 := 1#32
  let v91 : Index := Scalar.indexCast c1_i32_75
  let c2_i32_73 : BitVec 32 := 2#32
  let c0_i32_57 : BitVec 32 := 0#32
  let c0_i32_22 : BitVec 32 := 0#32
  let c1_i32_24 : BitVec 32 := 1#32
  let arg8 : BitVec 32 := Scf.iv c0_i32_22 c1_i32_24 k0_t2
  let c1_i32_56 : BitVec 32 := 1#32
  let v62 : BitVec 32 := Scalar.muli arg8 c1_i32_56
  let v63 : BitVec 32 := Scalar.addi c0_i32_57 v62
  let v89 : BitVec 32 := Scalar.muli c2_i32_73 v63
  let c1_i32_74 : BitVec 32 := 1#32
  let v90 : BitVec 32 := Scalar.addi v89 c1_i32_74
  let v92 : Index := Scalar.indexCast v90
  let c80 : Index := 80#32
  ![1, v92.toNat, 80]
def k0_off23 (k0_t2 : Fin k0_t2_loop.trips) : Fin 3 → Nat :=
  let c1_i32_78 : BitVec 32 := 1#32
  let v96 : Index := Scalar.indexCast c1_i32_78
  let c2_i32_76 : BitVec 32 := 2#32
  let c0_i32_57 : BitVec 32 := 0#32
  let c0_i32_22 : BitVec 32 := 0#32
  let c1_i32_24 : BitVec 32 := 1#32
  let arg8 : BitVec 32 := Scf.iv c0_i32_22 c1_i32_24 k0_t2
  let c1_i32_56 : BitVec 32 := 1#32
  let v62 : BitVec 32 := Scalar.muli arg8 c1_i32_56
  let v63 : BitVec 32 := Scalar.addi c0_i32_57 v62
  let v94 : BitVec 32 := Scalar.muli c2_i32_76 v63
  let c1_i32_77 : BitVec 32 := 1#32
  let v95 : BitVec 32 := Scalar.addi v94 c1_i32_77
  let v97 : Index := Scalar.indexCast v95
  let c96 : Index := 96#32
  ![1, v97.toNat, 96]
def k0_off24 (k0_t2 : Fin k0_t2_loop.trips) : Fin 3 → Nat :=
  let c1_i32_81 : BitVec 32 := 1#32
  let v101 : Index := Scalar.indexCast c1_i32_81
  let c2_i32_79 : BitVec 32 := 2#32
  let c0_i32_57 : BitVec 32 := 0#32
  let c0_i32_22 : BitVec 32 := 0#32
  let c1_i32_24 : BitVec 32 := 1#32
  let arg8 : BitVec 32 := Scf.iv c0_i32_22 c1_i32_24 k0_t2
  let c1_i32_56 : BitVec 32 := 1#32
  let v62 : BitVec 32 := Scalar.muli arg8 c1_i32_56
  let v63 : BitVec 32 := Scalar.addi c0_i32_57 v62
  let v99 : BitVec 32 := Scalar.muli c2_i32_79 v63
  let c1_i32_80 : BitVec 32 := 1#32
  let v100 : BitVec 32 := Scalar.addi v99 c1_i32_80
  let v102 : Index := Scalar.indexCast v100
  let c112 : Index := 112#32
  ![1, v102.toNat, 112]
def k0_off25 (k0_t2 : Fin k0_t2_loop.trips) : Fin 3 → Nat :=
  let c1_i32_84 : BitVec 32 := 1#32
  let v106 : Index := Scalar.indexCast c1_i32_84
  let c2_i32_82 : BitVec 32 := 2#32
  let c0_i32_57 : BitVec 32 := 0#32
  let c0_i32_22 : BitVec 32 := 0#32
  let c1_i32_24 : BitVec 32 := 1#32
  let arg8 : BitVec 32 := Scf.iv c0_i32_22 c1_i32_24 k0_t2
  let c1_i32_56 : BitVec 32 := 1#32
  let v62 : BitVec 32 := Scalar.muli arg8 c1_i32_56
  let v63 : BitVec 32 := Scalar.addi c0_i32_57 v62
  let v104 : BitVec 32 := Scalar.muli c2_i32_82 v63
  let c1_i32_83 : BitVec 32 := 1#32
  let v105 : BitVec 32 := Scalar.addi v104 c1_i32_83
  let v107 : Index := Scalar.indexCast v105
  let c128 : Index := 128#32
  ![1, v107.toNat, 128]
def k0_off26 (k0_t2 : Fin k0_t2_loop.trips) : Fin 3 → Nat :=
  let c1_i32_87 : BitVec 32 := 1#32
  let v111 : Index := Scalar.indexCast c1_i32_87
  let c2_i32_85 : BitVec 32 := 2#32
  let c0_i32_57 : BitVec 32 := 0#32
  let c0_i32_22 : BitVec 32 := 0#32
  let c1_i32_24 : BitVec 32 := 1#32
  let arg8 : BitVec 32 := Scf.iv c0_i32_22 c1_i32_24 k0_t2
  let c1_i32_56 : BitVec 32 := 1#32
  let v62 : BitVec 32 := Scalar.muli arg8 c1_i32_56
  let v63 : BitVec 32 := Scalar.addi c0_i32_57 v62
  let v109 : BitVec 32 := Scalar.muli c2_i32_85 v63
  let c1_i32_86 : BitVec 32 := 1#32
  let v110 : BitVec 32 := Scalar.addi v109 c1_i32_86
  let v112 : Index := Scalar.indexCast v110
  let c144 : Index := 144#32
  ![1, v112.toNat, 144]
def k0_off27 (k0_t2 : Fin k0_t2_loop.trips) : Fin 3 → Nat :=
  let c1_i32_90 : BitVec 32 := 1#32
  let v116 : Index := Scalar.indexCast c1_i32_90
  let c2_i32_88 : BitVec 32 := 2#32
  let c0_i32_57 : BitVec 32 := 0#32
  let c0_i32_22 : BitVec 32 := 0#32
  let c1_i32_24 : BitVec 32 := 1#32
  let arg8 : BitVec 32 := Scf.iv c0_i32_22 c1_i32_24 k0_t2
  let c1_i32_56 : BitVec 32 := 1#32
  let v62 : BitVec 32 := Scalar.muli arg8 c1_i32_56
  let v63 : BitVec 32 := Scalar.addi c0_i32_57 v62
  let v114 : BitVec 32 := Scalar.muli c2_i32_88 v63
  let c1_i32_89 : BitVec 32 := 1#32
  let v115 : BitVec 32 := Scalar.addi v114 c1_i32_89
  let v117 : Index := Scalar.indexCast v115
  let c160 : Index := 160#32
  ![1, v117.toNat, 160]
def k0_off28 (k0_t2 : Fin k0_t2_loop.trips) : Fin 3 → Nat :=
  let c1_i32_93 : BitVec 32 := 1#32
  let v121 : Index := Scalar.indexCast c1_i32_93
  let c2_i32_91 : BitVec 32 := 2#32
  let c0_i32_57 : BitVec 32 := 0#32
  let c0_i32_22 : BitVec 32 := 0#32
  let c1_i32_24 : BitVec 32 := 1#32
  let arg8 : BitVec 32 := Scf.iv c0_i32_22 c1_i32_24 k0_t2
  let c1_i32_56 : BitVec 32 := 1#32
  let v62 : BitVec 32 := Scalar.muli arg8 c1_i32_56
  let v63 : BitVec 32 := Scalar.addi c0_i32_57 v62
  let v119 : BitVec 32 := Scalar.muli c2_i32_91 v63
  let c1_i32_92 : BitVec 32 := 1#32
  let v120 : BitVec 32 := Scalar.addi v119 c1_i32_92
  let v122 : Index := Scalar.indexCast v120
  let c176 : Index := 176#32
  ![1, v122.toNat, 176]
def k0_off29 (k0_t2 : Fin k0_t2_loop.trips) : Fin 3 → Nat :=
  let c1_i32_96 : BitVec 32 := 1#32
  let v126 : Index := Scalar.indexCast c1_i32_96
  let c2_i32_94 : BitVec 32 := 2#32
  let c0_i32_57 : BitVec 32 := 0#32
  let c0_i32_22 : BitVec 32 := 0#32
  let c1_i32_24 : BitVec 32 := 1#32
  let arg8 : BitVec 32 := Scf.iv c0_i32_22 c1_i32_24 k0_t2
  let c1_i32_56 : BitVec 32 := 1#32
  let v62 : BitVec 32 := Scalar.muli arg8 c1_i32_56
  let v63 : BitVec 32 := Scalar.addi c0_i32_57 v62
  let v124 : BitVec 32 := Scalar.muli c2_i32_94 v63
  let c1_i32_95 : BitVec 32 := 1#32
  let v125 : BitVec 32 := Scalar.addi v124 c1_i32_95
  let v127 : Index := Scalar.indexCast v125
  let c192 : Index := 192#32
  ![1, v127.toNat, 192]
def k0_off30 (k0_t2 : Fin k0_t2_loop.trips) : Fin 3 → Nat :=
  let c1_i32_99 : BitVec 32 := 1#32
  let v131 : Index := Scalar.indexCast c1_i32_99
  let c2_i32_97 : BitVec 32 := 2#32
  let c0_i32_57 : BitVec 32 := 0#32
  let c0_i32_22 : BitVec 32 := 0#32
  let c1_i32_24 : BitVec 32 := 1#32
  let arg8 : BitVec 32 := Scf.iv c0_i32_22 c1_i32_24 k0_t2
  let c1_i32_56 : BitVec 32 := 1#32
  let v62 : BitVec 32 := Scalar.muli arg8 c1_i32_56
  let v63 : BitVec 32 := Scalar.addi c0_i32_57 v62
  let v129 : BitVec 32 := Scalar.muli c2_i32_97 v63
  let c1_i32_98 : BitVec 32 := 1#32
  let v130 : BitVec 32 := Scalar.addi v129 c1_i32_98
  let v132 : Index := Scalar.indexCast v130
  let c208 : Index := 208#32
  ![1, v132.toNat, 208]
@[reducible] def k0_t3_loop : Scf.Loop 32 :=
  let c0_i32_30 : BitVec 32 := 0#32
  let c12_i32 : BitVec 32 := 12#32
  let v36 : BitVec 32 := Scalar.addi c0_i32_30 c12_i32
  let c1_i32_31 : BitVec 32 := 1#32
  ⟨c0_i32_30, v36, c1_i32_31⟩
def k0_off31 (i : grid0.Coords) (k0_t3 : Fin k0_t3_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c24_i32 : BitVec 32 := 24#32
  let v2 : BitVec 32 := Scalar.muli v1 c24_i32
  let c2_i32_56 : BitVec 32 := 2#32
  let c0_i32_30 : BitVec 32 := 0#32
  let c1_i32_31 : BitVec 32 := 1#32
  let arg8 : BitVec 32 := Scf.iv c0_i32_30 c1_i32_31 k0_t3
  let v62 : BitVec 32 := Scalar.muli c2_i32_56 arg8
  let c0_i32_57 : BitVec 32 := 0#32
  let v63 : BitVec 32 := Scalar.addi v62 c0_i32_57
  let v64 : BitVec 32 := Scalar.addi v2 v63
  let c0_i32_62 : BitVec 32 := 0#32
  let c0_i32_63 : BitVec 32 := 0#32
  ![v64.toNat, 0, 0]
def k0_cond1 (k0_t3 : Fin k0_t3_loop.trips) : BitVec 1 :=
  let c2_i32_56 : BitVec 32 := 2#32
  let c0_i32_30 : BitVec 32 := 0#32
  let c1_i32_31 : BitVec 32 := 1#32
  let arg8 : BitVec 32 := Scf.iv c0_i32_30 c1_i32_31 k0_t3
  let v62 : BitVec 32 := Scalar.muli c2_i32_56 arg8
  let c0_i32_57 : BitVec 32 := 0#32
  let v63 : BitVec 32 := Scalar.addi v62 c0_i32_57
  let c1_i32_68 : BitVec 32 := 1#32
  let v75 : BitVec 1 := Scalar.cmpi .sge v63 c1_i32_68
  let v76 : BitVec 32 := Scalar.extui v75
  let c0_i32_69 : BitVec 32 := 0#32
  let v77 : BitVec 1 := Scalar.cmpi .ne v76 c0_i32_69
  v77

def k0_off32 (i : grid0.Coords) (k0_t3 : Fin k0_t3_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c24_i32 : BitVec 32 := 24#32
  let v2 : BitVec 32 := Scalar.muli v1 c24_i32
  let c2_i32_56 : BitVec 32 := 2#32
  let c0_i32_30 : BitVec 32 := 0#32
  let c1_i32_31 : BitVec 32 := 1#32
  let arg8 : BitVec 32 := Scf.iv c0_i32_30 c1_i32_31 k0_t3
  let v62 : BitVec 32 := Scalar.muli c2_i32_56 arg8
  let c0_i32_57 : BitVec 32 := 0#32
  let v63 : BitVec 32 := Scalar.addi v62 c0_i32_57
  let v64 : BitVec 32 := Scalar.addi v2 v63
  let c1_i32_148 : BitVec 32 := 1#32
  let v150 : BitVec 32 := Scalar.subi v64 c1_i32_148
  let c0_i32_153 : BitVec 32 := 0#32
  let c0_i32_154 : BitVec 32 := 0#32
  ![v150.toNat, 0, 0]
@[reducible] def k0_t4_loop : Scf.Loop 32 :=
  let c0_i32_70 : BitVec 32 := 0#32
  let c56_i32_71 : BitVec 32 := 56#32
  let v78 : BitVec 32 := Scalar.addi c0_i32_70 c56_i32_71
  let c1_i32_72 : BitVec 32 := 1#32
  ⟨c0_i32_70, v78, c1_i32_72⟩
def k0_off33 (k0_t4 : Fin k0_t4_loop.trips) : Fin 3 → Nat :=
  let c0_i32_152 : BitVec 32 := 0#32
  let c0_i32_151 : BitVec 32 := 0#32
  let c0_i32_149 : BitVec 32 := 0#32
  let c0_i32_70 : BitVec 32 := 0#32
  let c1_i32_72 : BitVec 32 := 1#32
  let arg10 : BitVec 32 := Scf.iv c0_i32_70 c1_i32_72 k0_t4
  let c1_i32_148 : BitVec 32 := 1#32
  let v150 : BitVec 32 := Scalar.muli arg10 c1_i32_148
  let v151 : BitVec 32 := Scalar.addi c0_i32_149 v150
  let v153 : BitVec 32 := Scalar.addi c0_i32_151 v151
  let c0_i32_153 : BitVec 32 := 0#32
  ![0, v153.toNat, 0]
def k0_off34 (k0_t4 : Fin k0_t4_loop.trips) : Fin 3 → Nat :=
  let c0_i32_155 : BitVec 32 := 0#32
  let v159 : Index := Scalar.indexCast c0_i32_155
  let c2_i32_150 : BitVec 32 := 2#32
  let c0_i32_149 : BitVec 32 := 0#32
  let c0_i32_70 : BitVec 32 := 0#32
  let c1_i32_72 : BitVec 32 := 1#32
  let arg10 : BitVec 32 := Scf.iv c0_i32_70 c1_i32_72 k0_t4
  let c1_i32_148 : BitVec 32 := 1#32
  let v150 : BitVec 32 := Scalar.muli arg10 c1_i32_148
  let v151 : BitVec 32 := Scalar.addi c0_i32_149 v150
  let v152 : BitVec 32 := Scalar.muli c2_i32_150 v151
  let v160 : Index := Scalar.indexCast v152
  let c0 : Index := 0#32
  ![0, v160.toNat, 0]
def k0_off35 (k0_t4 : Fin k0_t4_loop.trips) : Fin 3 → Nat :=
  let c0_i32_156 : BitVec 32 := 0#32
  let c0_i32_151 : BitVec 32 := 0#32
  let c0_i32_149 : BitVec 32 := 0#32
  let c0_i32_70 : BitVec 32 := 0#32
  let c1_i32_72 : BitVec 32 := 1#32
  let arg10 : BitVec 32 := Scf.iv c0_i32_70 c1_i32_72 k0_t4
  let c1_i32_148 : BitVec 32 := 1#32
  let v150 : BitVec 32 := Scalar.muli arg10 c1_i32_148
  let v151 : BitVec 32 := Scalar.addi c0_i32_149 v150
  let v153 : BitVec 32 := Scalar.addi c0_i32_151 v151
  let c0_i32_157 : BitVec 32 := 0#32
  ![0, v153.toNat, 0]
def k0_off36 (k0_t4 : Fin k0_t4_loop.trips) : Fin 3 → Nat :=
  let c0_i32_159 : BitVec 32 := 0#32
  let v167 : Index := Scalar.indexCast c0_i32_159
  let c2_i32_150 : BitVec 32 := 2#32
  let c0_i32_149 : BitVec 32 := 0#32
  let c0_i32_70 : BitVec 32 := 0#32
  let c1_i32_72 : BitVec 32 := 1#32
  let arg10 : BitVec 32 := Scf.iv c0_i32_70 c1_i32_72 k0_t4
  let c1_i32_148 : BitVec 32 := 1#32
  let v150 : BitVec 32 := Scalar.muli arg10 c1_i32_148
  let v151 : BitVec 32 := Scalar.addi c0_i32_149 v150
  let v152 : BitVec 32 := Scalar.muli c2_i32_150 v151
  let v168 : Index := Scalar.indexCast v152
  let c16 : Index := 16#32
  ![0, v168.toNat, 16]
def k0_off37 (k0_t4 : Fin k0_t4_loop.trips) : Fin 3 → Nat :=
  let c0_i32_161 : BitVec 32 := 0#32
  let c0_i32_160 : BitVec 32 := 0#32
  let c0_i32_149 : BitVec 32 := 0#32
  let c0_i32_70 : BitVec 32 := 0#32
  let c1_i32_72 : BitVec 32 := 1#32
  let arg10 : BitVec 32 := Scf.iv c0_i32_70 c1_i32_72 k0_t4
  let c1_i32_148 : BitVec 32 := 1#32
  let v150 : BitVec 32 := Scalar.muli arg10 c1_i32_148
  let v151 : BitVec 32 := Scalar.addi c0_i32_149 v150
  let v170 : BitVec 32 := Scalar.addi c0_i32_160 v151
  let c16_i32 : BitVec 32 := 16#32
  ![0, v170.toNat, 16]
def k0_off38 (k0_t4 : Fin k0_t4_loop.trips) : Fin 3 → Nat :=
  let c0_i32_163 : BitVec 32 := 0#32
  let v176 : Index := Scalar.indexCast c0_i32_163
  let c2_i32_150 : BitVec 32 := 2#32
  let c0_i32_149 : BitVec 32 := 0#32
  let c0_i32_70 : BitVec 32 := 0#32
  let c1_i32_72 : BitVec 32 := 1#32
  let arg10 : BitVec 32 := Scf.iv c0_i32_70 c1_i32_72 k0_t4
  let c1_i32_148 : BitVec 32 := 1#32
  let v150 : BitVec 32 := Scalar.muli arg10 c1_i32_148
  let v151 : BitVec 32 := Scalar.addi c0_i32_149 v150
  let v152 : BitVec 32 := Scalar.muli c2_i32_150 v151
  let v177 : Index := Scalar.indexCast v152
  let c32 : Index := 32#32
  ![0, v177.toNat, 32]
def k0_off39 (k0_t4 : Fin k0_t4_loop.trips) : Fin 3 → Nat :=
  let c0_i32_167 : BitVec 32 := 0#32
  let v184 : Index := Scalar.indexCast c0_i32_167
  let c2_i32_150 : BitVec 32 := 2#32
  let c0_i32_149 : BitVec 32 := 0#32
  let c0_i32_70 : BitVec 32 := 0#32
  let c1_i32_72 : BitVec 32 := 1#32
  let arg10 : BitVec 32 := Scf.iv c0_i32_70 c1_i32_72 k0_t4
  let c1_i32_148 : BitVec 32 := 1#32
  let v150 : BitVec 32 := Scalar.muli arg10 c1_i32_148
  let v151 : BitVec 32 := Scalar.addi c0_i32_149 v150
  let v152 : BitVec 32 := Scalar.muli c2_i32_150 v151
  let v185 : Index := Scalar.indexCast v152
  let c48 : Index := 48#32
  ![0, v185.toNat, 48]
def k0_off40 (k0_t4 : Fin k0_t4_loop.trips) : Fin 3 → Nat :=
  let c0_i32_169 : BitVec 32 := 0#32
  let c0_i32_168 : BitVec 32 := 0#32
  let c0_i32_149 : BitVec 32 := 0#32
  let c0_i32_70 : BitVec 32 := 0#32
  let c1_i32_72 : BitVec 32 := 1#32
  let arg10 : BitVec 32 := Scf.iv c0_i32_70 c1_i32_72 k0_t4
  let c1_i32_148 : BitVec 32 := 1#32
  let v150 : BitVec 32 := Scalar.muli arg10 c1_i32_148
  let v151 : BitVec 32 := Scalar.addi c0_i32_149 v150
  let v187 : BitVec 32 := Scalar.addi c0_i32_168 v151
  let c32_i32 : BitVec 32 := 32#32
  ![0, v187.toNat, 32]
def k0_off41 (k0_t4 : Fin k0_t4_loop.trips) : Fin 3 → Nat :=
  let c0_i32_171 : BitVec 32 := 0#32
  let v193 : Index := Scalar.indexCast c0_i32_171
  let c2_i32_150 : BitVec 32 := 2#32
  let c0_i32_149 : BitVec 32 := 0#32
  let c0_i32_70 : BitVec 32 := 0#32
  let c1_i32_72 : BitVec 32 := 1#32
  let arg10 : BitVec 32 := Scf.iv c0_i32_70 c1_i32_72 k0_t4
  let c1_i32_148 : BitVec 32 := 1#32
  let v150 : BitVec 32 := Scalar.muli arg10 c1_i32_148
  let v151 : BitVec 32 := Scalar.addi c0_i32_149 v150
  let v152 : BitVec 32 := Scalar.muli c2_i32_150 v151
  let v194 : Index := Scalar.indexCast v152
  let c64 : Index := 64#32
  ![0, v194.toNat, 64]
def k0_off42 (k0_t4 : Fin k0_t4_loop.trips) : Fin 3 → Nat :=
  let c0_i32_175 : BitVec 32 := 0#32
  let v201 : Index := Scalar.indexCast c0_i32_175
  let c2_i32_150 : BitVec 32 := 2#32
  let c0_i32_149 : BitVec 32 := 0#32
  let c0_i32_70 : BitVec 32 := 0#32
  let c1_i32_72 : BitVec 32 := 1#32
  let arg10 : BitVec 32 := Scf.iv c0_i32_70 c1_i32_72 k0_t4
  let c1_i32_148 : BitVec 32 := 1#32
  let v150 : BitVec 32 := Scalar.muli arg10 c1_i32_148
  let v151 : BitVec 32 := Scalar.addi c0_i32_149 v150
  let v152 : BitVec 32 := Scalar.muli c2_i32_150 v151
  let v202 : Index := Scalar.indexCast v152
  let c80 : Index := 80#32
  ![0, v202.toNat, 80]
def k0_off43 (k0_t4 : Fin k0_t4_loop.trips) : Fin 3 → Nat :=
  let c0_i32_177 : BitVec 32 := 0#32
  let c0_i32_176 : BitVec 32 := 0#32
  let c0_i32_149 : BitVec 32 := 0#32
  let c0_i32_70 : BitVec 32 := 0#32
  let c1_i32_72 : BitVec 32 := 1#32
  let arg10 : BitVec 32 := Scf.iv c0_i32_70 c1_i32_72 k0_t4
  let c1_i32_148 : BitVec 32 := 1#32
  let v150 : BitVec 32 := Scalar.muli arg10 c1_i32_148
  let v151 : BitVec 32 := Scalar.addi c0_i32_149 v150
  let v204 : BitVec 32 := Scalar.addi c0_i32_176 v151
  let c48_i32 : BitVec 32 := 48#32
  ![0, v204.toNat, 48]
def k0_off44 (k0_t4 : Fin k0_t4_loop.trips) : Fin 3 → Nat :=
  let c0_i32_179 : BitVec 32 := 0#32
  let v210 : Index := Scalar.indexCast c0_i32_179
  let c2_i32_150 : BitVec 32 := 2#32
  let c0_i32_149 : BitVec 32 := 0#32
  let c0_i32_70 : BitVec 32 := 0#32
  let c1_i32_72 : BitVec 32 := 1#32
  let arg10 : BitVec 32 := Scf.iv c0_i32_70 c1_i32_72 k0_t4
  let c1_i32_148 : BitVec 32 := 1#32
  let v150 : BitVec 32 := Scalar.muli arg10 c1_i32_148
  let v151 : BitVec 32 := Scalar.addi c0_i32_149 v150
  let v152 : BitVec 32 := Scalar.muli c2_i32_150 v151
  let v211 : Index := Scalar.indexCast v152
  let c96 : Index := 96#32
  ![0, v211.toNat, 96]
def k0_off45 (k0_t4 : Fin k0_t4_loop.trips) : Fin 3 → Nat :=
  let c0_i32_183 : BitVec 32 := 0#32
  let v218 : Index := Scalar.indexCast c0_i32_183
  let c2_i32_150 : BitVec 32 := 2#32
  let c0_i32_149 : BitVec 32 := 0#32
  let c0_i32_70 : BitVec 32 := 0#32
  let c1_i32_72 : BitVec 32 := 1#32
  let arg10 : BitVec 32 := Scf.iv c0_i32_70 c1_i32_72 k0_t4
  let c1_i32_148 : BitVec 32 := 1#32
  let v150 : BitVec 32 := Scalar.muli arg10 c1_i32_148
  let v151 : BitVec 32 := Scalar.addi c0_i32_149 v150
  let v152 : BitVec 32 := Scalar.muli c2_i32_150 v151
  let v219 : Index := Scalar.indexCast v152
  let c112 : Index := 112#32
  ![0, v219.toNat, 112]
def k0_off46 (k0_t4 : Fin k0_t4_loop.trips) : Fin 3 → Nat :=
  let c0_i32_185 : BitVec 32 := 0#32
  let c0_i32_184 : BitVec 32 := 0#32
  let c0_i32_149 : BitVec 32 := 0#32
  let c0_i32_70 : BitVec 32 := 0#32
  let c1_i32_72 : BitVec 32 := 1#32
  let arg10 : BitVec 32 := Scf.iv c0_i32_70 c1_i32_72 k0_t4
  let c1_i32_148 : BitVec 32 := 1#32
  let v150 : BitVec 32 := Scalar.muli arg10 c1_i32_148
  let v151 : BitVec 32 := Scalar.addi c0_i32_149 v150
  let v221 : BitVec 32 := Scalar.addi c0_i32_184 v151
  let c64_i32 : BitVec 32 := 64#32
  ![0, v221.toNat, 64]
def k0_off47 (k0_t4 : Fin k0_t4_loop.trips) : Fin 3 → Nat :=
  let c0_i32_187 : BitVec 32 := 0#32
  let v227 : Index := Scalar.indexCast c0_i32_187
  let c2_i32_150 : BitVec 32 := 2#32
  let c0_i32_149 : BitVec 32 := 0#32
  let c0_i32_70 : BitVec 32 := 0#32
  let c1_i32_72 : BitVec 32 := 1#32
  let arg10 : BitVec 32 := Scf.iv c0_i32_70 c1_i32_72 k0_t4
  let c1_i32_148 : BitVec 32 := 1#32
  let v150 : BitVec 32 := Scalar.muli arg10 c1_i32_148
  let v151 : BitVec 32 := Scalar.addi c0_i32_149 v150
  let v152 : BitVec 32 := Scalar.muli c2_i32_150 v151
  let v228 : Index := Scalar.indexCast v152
  let c128 : Index := 128#32
  ![0, v228.toNat, 128]
def k0_off48 (k0_t4 : Fin k0_t4_loop.trips) : Fin 3 → Nat :=
  let c0_i32_191 : BitVec 32 := 0#32
  let v235 : Index := Scalar.indexCast c0_i32_191
  let c2_i32_150 : BitVec 32 := 2#32
  let c0_i32_149 : BitVec 32 := 0#32
  let c0_i32_70 : BitVec 32 := 0#32
  let c1_i32_72 : BitVec 32 := 1#32
  let arg10 : BitVec 32 := Scf.iv c0_i32_70 c1_i32_72 k0_t4
  let c1_i32_148 : BitVec 32 := 1#32
  let v150 : BitVec 32 := Scalar.muli arg10 c1_i32_148
  let v151 : BitVec 32 := Scalar.addi c0_i32_149 v150
  let v152 : BitVec 32 := Scalar.muli c2_i32_150 v151
  let v236 : Index := Scalar.indexCast v152
  let c144 : Index := 144#32
  ![0, v236.toNat, 144]
def k0_off49 (k0_t4 : Fin k0_t4_loop.trips) : Fin 3 → Nat :=
  let c0_i32_193 : BitVec 32 := 0#32
  let c0_i32_192 : BitVec 32 := 0#32
  let c0_i32_149 : BitVec 32 := 0#32
  let c0_i32_70 : BitVec 32 := 0#32
  let c1_i32_72 : BitVec 32 := 1#32
  let arg10 : BitVec 32 := Scf.iv c0_i32_70 c1_i32_72 k0_t4
  let c1_i32_148 : BitVec 32 := 1#32
  let v150 : BitVec 32 := Scalar.muli arg10 c1_i32_148
  let v151 : BitVec 32 := Scalar.addi c0_i32_149 v150
  let v238 : BitVec 32 := Scalar.addi c0_i32_192 v151
  let c80_i32 : BitVec 32 := 80#32
  ![0, v238.toNat, 80]
def k0_off50 (k0_t4 : Fin k0_t4_loop.trips) : Fin 3 → Nat :=
  let c0_i32_195 : BitVec 32 := 0#32
  let v244 : Index := Scalar.indexCast c0_i32_195
  let c2_i32_150 : BitVec 32 := 2#32
  let c0_i32_149 : BitVec 32 := 0#32
  let c0_i32_70 : BitVec 32 := 0#32
  let c1_i32_72 : BitVec 32 := 1#32
  let arg10 : BitVec 32 := Scf.iv c0_i32_70 c1_i32_72 k0_t4
  let c1_i32_148 : BitVec 32 := 1#32
  let v150 : BitVec 32 := Scalar.muli arg10 c1_i32_148
  let v151 : BitVec 32 := Scalar.addi c0_i32_149 v150
  let v152 : BitVec 32 := Scalar.muli c2_i32_150 v151
  let v245 : Index := Scalar.indexCast v152
  let c160 : Index := 160#32
  ![0, v245.toNat, 160]
def k0_off51 (k0_t4 : Fin k0_t4_loop.trips) : Fin 3 → Nat :=
  let c0_i32_199 : BitVec 32 := 0#32
  let v252 : Index := Scalar.indexCast c0_i32_199
  let c2_i32_150 : BitVec 32 := 2#32
  let c0_i32_149 : BitVec 32 := 0#32
  let c0_i32_70 : BitVec 32 := 0#32
  let c1_i32_72 : BitVec 32 := 1#32
  let arg10 : BitVec 32 := Scf.iv c0_i32_70 c1_i32_72 k0_t4
  let c1_i32_148 : BitVec 32 := 1#32
  let v150 : BitVec 32 := Scalar.muli arg10 c1_i32_148
  let v151 : BitVec 32 := Scalar.addi c0_i32_149 v150
  let v152 : BitVec 32 := Scalar.muli c2_i32_150 v151
  let v253 : Index := Scalar.indexCast v152
  let c176 : Index := 176#32
  ![0, v253.toNat, 176]
def k0_off52 (k0_t4 : Fin k0_t4_loop.trips) : Fin 3 → Nat :=
  let c0_i32_201 : BitVec 32 := 0#32
  let c0_i32_200 : BitVec 32 := 0#32
  let c0_i32_149 : BitVec 32 := 0#32
  let c0_i32_70 : BitVec 32 := 0#32
  let c1_i32_72 : BitVec 32 := 1#32
  let arg10 : BitVec 32 := Scf.iv c0_i32_70 c1_i32_72 k0_t4
  let c1_i32_148 : BitVec 32 := 1#32
  let v150 : BitVec 32 := Scalar.muli arg10 c1_i32_148
  let v151 : BitVec 32 := Scalar.addi c0_i32_149 v150
  let v255 : BitVec 32 := Scalar.addi c0_i32_200 v151
  let c96_i32 : BitVec 32 := 96#32
  ![0, v255.toNat, 96]
def k0_off53 (k0_t4 : Fin k0_t4_loop.trips) : Fin 3 → Nat :=
  let c0_i32_203 : BitVec 32 := 0#32
  let v261 : Index := Scalar.indexCast c0_i32_203
  let c2_i32_150 : BitVec 32 := 2#32
  let c0_i32_149 : BitVec 32 := 0#32
  let c0_i32_70 : BitVec 32 := 0#32
  let c1_i32_72 : BitVec 32 := 1#32
  let arg10 : BitVec 32 := Scf.iv c0_i32_70 c1_i32_72 k0_t4
  let c1_i32_148 : BitVec 32 := 1#32
  let v150 : BitVec 32 := Scalar.muli arg10 c1_i32_148
  let v151 : BitVec 32 := Scalar.addi c0_i32_149 v150
  let v152 : BitVec 32 := Scalar.muli c2_i32_150 v151
  let v262 : Index := Scalar.indexCast v152
  let c192 : Index := 192#32
  ![0, v262.toNat, 192]
def k0_off54 (k0_t4 : Fin k0_t4_loop.trips) : Fin 3 → Nat :=
  let c0_i32_207 : BitVec 32 := 0#32
  let v269 : Index := Scalar.indexCast c0_i32_207
  let c2_i32_150 : BitVec 32 := 2#32
  let c0_i32_149 : BitVec 32 := 0#32
  let c0_i32_70 : BitVec 32 := 0#32
  let c1_i32_72 : BitVec 32 := 1#32
  let arg10 : BitVec 32 := Scf.iv c0_i32_70 c1_i32_72 k0_t4
  let c1_i32_148 : BitVec 32 := 1#32
  let v150 : BitVec 32 := Scalar.muli arg10 c1_i32_148
  let v151 : BitVec 32 := Scalar.addi c0_i32_149 v150
  let v152 : BitVec 32 := Scalar.muli c2_i32_150 v151
  let v270 : Index := Scalar.indexCast v152
  let c208 : Index := 208#32
  ![0, v270.toNat, 208]
def k0_off55 (i : grid0.Coords) (k0_t3 : Fin k0_t3_loop.trips) (c0_i32_57 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c24_i32 : BitVec 32 := 24#32
  let v2 : BitVec 32 := Scalar.muli v1 c24_i32
  let c2_i32_56 : BitVec 32 := 2#32
  let c0_i32_30 : BitVec 32 := 0#32
  let c1_i32_31 : BitVec 32 := 1#32
  let arg8 : BitVec 32 := Scf.iv c0_i32_30 c1_i32_31 k0_t3
  let v62 : BitVec 32 := Scalar.muli c2_i32_56 arg8
  let v63 : BitVec 32 := Scalar.addi v62 c0_i32_57
  let v64 : BitVec 32 := Scalar.addi v2 v63
  let c0_i32_78 : BitVec 32 := 0#32
  let c0_i32_79 : BitVec 32 := 0#32
  ![v64.toNat, 0, 0]
def k0_cond2 (k0_t3 : Fin k0_t3_loop.trips) : BitVec 1 :=
  let c2_i32_56 : BitVec 32 := 2#32
  let c0_i32_30 : BitVec 32 := 0#32
  let c1_i32_31 : BitVec 32 := 1#32
  let arg8 : BitVec 32 := Scf.iv c0_i32_30 c1_i32_31 k0_t3
  let v62 : BitVec 32 := Scalar.muli c2_i32_56 arg8
  let c0_i32_57 : BitVec 32 := 0#32
  let v63 : BitVec 32 := Scalar.addi v62 c0_i32_57
  let c1_i32_84 : BitVec 32 := 1#32
  let v89 : BitVec 1 := Scalar.cmpi .sge v63 c1_i32_84
  let v90 : BitVec 32 := Scalar.extui v89
  let c0_i32_85 : BitVec 32 := 0#32
  let v91 : BitVec 1 := Scalar.cmpi .ne v90 c0_i32_85
  v91

def k0_off56 (i : grid0.Coords) (k0_t3 : Fin k0_t3_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c24_i32 : BitVec 32 := 24#32
  let v2 : BitVec 32 := Scalar.muli v1 c24_i32
  let c2_i32_56 : BitVec 32 := 2#32
  let c0_i32_30 : BitVec 32 := 0#32
  let c1_i32_31 : BitVec 32 := 1#32
  let arg8 : BitVec 32 := Scf.iv c0_i32_30 c1_i32_31 k0_t3
  let v62 : BitVec 32 := Scalar.muli c2_i32_56 arg8
  let c0_i32_57 : BitVec 32 := 0#32
  let v63 : BitVec 32 := Scalar.addi v62 c0_i32_57
  let v64 : BitVec 32 := Scalar.addi v2 v63
  let c1_i32_148 : BitVec 32 := 1#32
  let v150 : BitVec 32 := Scalar.subi v64 c1_i32_148
  let c112_i32_153 : BitVec 32 := 112#32
  let c0_i32_154 : BitVec 32 := 0#32
  ![v150.toNat, 112, 0]
@[reducible] def k0_t5_loop : Scf.Loop 32 :=
  let c0_i32_86 : BitVec 32 := 0#32
  let c56_i32_87 : BitVec 32 := 56#32
  let v92 : BitVec 32 := Scalar.addi c0_i32_86 c56_i32_87
  let c1_i32_88 : BitVec 32 := 1#32
  ⟨c0_i32_86, v92, c1_i32_88⟩
def k0_off57 (k0_t5 : Fin k0_t5_loop.trips) : Fin 3 → Nat :=
  let c0_i32_152 : BitVec 32 := 0#32
  let c56_i32_151 : BitVec 32 := 56#32
  let c0_i32_149 : BitVec 32 := 0#32
  let c0_i32_86 : BitVec 32 := 0#32
  let c1_i32_88 : BitVec 32 := 1#32
  let arg10 : BitVec 32 := Scf.iv c0_i32_86 c1_i32_88 k0_t5
  let c1_i32_148 : BitVec 32 := 1#32
  let v150 : BitVec 32 := Scalar.muli arg10 c1_i32_148
  let v151 : BitVec 32 := Scalar.addi c0_i32_149 v150
  let v153 : BitVec 32 := Scalar.addi c56_i32_151 v151
  let c0_i32_153 : BitVec 32 := 0#32
  ![0, v153.toNat, 0]
def k0_off58 (k0_t5 : Fin k0_t5_loop.trips) : Fin 3 → Nat :=
  let c1_i32_155 : BitVec 32 := 1#32
  let v159 : Index := Scalar.indexCast c1_i32_155
  let c2_i32_150 : BitVec 32 := 2#32
  let c0_i32_149 : BitVec 32 := 0#32
  let c0_i32_86 : BitVec 32 := 0#32
  let c1_i32_88 : BitVec 32 := 1#32
  let arg10 : BitVec 32 := Scf.iv c0_i32_86 c1_i32_88 k0_t5
  let c1_i32_148 : BitVec 32 := 1#32
  let v150 : BitVec 32 := Scalar.muli arg10 c1_i32_148
  let v151 : BitVec 32 := Scalar.addi c0_i32_149 v150
  let v152 : BitVec 32 := Scalar.muli c2_i32_150 v151
  let v160 : Index := Scalar.indexCast v152
  let c0 : Index := 0#32
  ![1, v160.toNat, 0]
def k0_off59 (k0_t5 : Fin k0_t5_loop.trips) : Fin 3 → Nat :=
  let c1_i32_159 : BitVec 32 := 1#32
  let v167 : Index := Scalar.indexCast c1_i32_159
  let c2_i32_150 : BitVec 32 := 2#32
  let c0_i32_149 : BitVec 32 := 0#32
  let c0_i32_86 : BitVec 32 := 0#32
  let c1_i32_88 : BitVec 32 := 1#32
  let arg10 : BitVec 32 := Scf.iv c0_i32_86 c1_i32_88 k0_t5
  let c1_i32_148 : BitVec 32 := 1#32
  let v150 : BitVec 32 := Scalar.muli arg10 c1_i32_148
  let v151 : BitVec 32 := Scalar.addi c0_i32_149 v150
  let v152 : BitVec 32 := Scalar.muli c2_i32_150 v151
  let v168 : Index := Scalar.indexCast v152
  let c16 : Index := 16#32
  ![1, v168.toNat, 16]
def k0_off60 (k0_t5 : Fin k0_t5_loop.trips) : Fin 3 → Nat :=
  let c0_i32_161 : BitVec 32 := 0#32
  let c56_i32_160 : BitVec 32 := 56#32
  let c0_i32_149 : BitVec 32 := 0#32
  let c0_i32_86 : BitVec 32 := 0#32
  let c1_i32_88 : BitVec 32 := 1#32
  let arg10 : BitVec 32 := Scf.iv c0_i32_86 c1_i32_88 k0_t5
  let c1_i32_148 : BitVec 32 := 1#32
  let v150 : BitVec 32 := Scalar.muli arg10 c1_i32_148
  let v151 : BitVec 32 := Scalar.addi c0_i32_149 v150
  let v170 : BitVec 32 := Scalar.addi c56_i32_160 v151
  let c16_i32 : BitVec 32 := 16#32
  ![0, v170.toNat, 16]
def k0_off61 (k0_t5 : Fin k0_t5_loop.trips) : Fin 3 → Nat :=
  let c1_i32_163 : BitVec 32 := 1#32
  let v176 : Index := Scalar.indexCast c1_i32_163
  let c2_i32_150 : BitVec 32 := 2#32
  let c0_i32_149 : BitVec 32 := 0#32
  let c0_i32_86 : BitVec 32 := 0#32
  let c1_i32_88 : BitVec 32 := 1#32
  let arg10 : BitVec 32 := Scf.iv c0_i32_86 c1_i32_88 k0_t5
  let c1_i32_148 : BitVec 32 := 1#32
  let v150 : BitVec 32 := Scalar.muli arg10 c1_i32_148
  let v151 : BitVec 32 := Scalar.addi c0_i32_149 v150
  let v152 : BitVec 32 := Scalar.muli c2_i32_150 v151
  let v177 : Index := Scalar.indexCast v152
  let c32 : Index := 32#32
  ![1, v177.toNat, 32]
def k0_off62 (k0_t5 : Fin k0_t5_loop.trips) : Fin 3 → Nat :=
  let c1_i32_167 : BitVec 32 := 1#32
  let v184 : Index := Scalar.indexCast c1_i32_167
  let c2_i32_150 : BitVec 32 := 2#32
  let c0_i32_149 : BitVec 32 := 0#32
  let c0_i32_86 : BitVec 32 := 0#32
  let c1_i32_88 : BitVec 32 := 1#32
  let arg10 : BitVec 32 := Scf.iv c0_i32_86 c1_i32_88 k0_t5
  let c1_i32_148 : BitVec 32 := 1#32
  let v150 : BitVec 32 := Scalar.muli arg10 c1_i32_148
  let v151 : BitVec 32 := Scalar.addi c0_i32_149 v150
  let v152 : BitVec 32 := Scalar.muli c2_i32_150 v151
  let v185 : Index := Scalar.indexCast v152
  let c48 : Index := 48#32
  ![1, v185.toNat, 48]
def k0_off63 (k0_t5 : Fin k0_t5_loop.trips) : Fin 3 → Nat :=
  let c0_i32_169 : BitVec 32 := 0#32
  let c56_i32_168 : BitVec 32 := 56#32
  let c0_i32_149 : BitVec 32 := 0#32
  let c0_i32_86 : BitVec 32 := 0#32
  let c1_i32_88 : BitVec 32 := 1#32
  let arg10 : BitVec 32 := Scf.iv c0_i32_86 c1_i32_88 k0_t5
  let c1_i32_148 : BitVec 32 := 1#32
  let v150 : BitVec 32 := Scalar.muli arg10 c1_i32_148
  let v151 : BitVec 32 := Scalar.addi c0_i32_149 v150
  let v187 : BitVec 32 := Scalar.addi c56_i32_168 v151
  let c32_i32 : BitVec 32 := 32#32
  ![0, v187.toNat, 32]
def k0_off64 (k0_t5 : Fin k0_t5_loop.trips) : Fin 3 → Nat :=
  let c1_i32_171 : BitVec 32 := 1#32
  let v193 : Index := Scalar.indexCast c1_i32_171
  let c2_i32_150 : BitVec 32 := 2#32
  let c0_i32_149 : BitVec 32 := 0#32
  let c0_i32_86 : BitVec 32 := 0#32
  let c1_i32_88 : BitVec 32 := 1#32
  let arg10 : BitVec 32 := Scf.iv c0_i32_86 c1_i32_88 k0_t5
  let c1_i32_148 : BitVec 32 := 1#32
  let v150 : BitVec 32 := Scalar.muli arg10 c1_i32_148
  let v151 : BitVec 32 := Scalar.addi c0_i32_149 v150
  let v152 : BitVec 32 := Scalar.muli c2_i32_150 v151
  let v194 : Index := Scalar.indexCast v152
  let c64 : Index := 64#32
  ![1, v194.toNat, 64]
def k0_off65 (k0_t5 : Fin k0_t5_loop.trips) : Fin 3 → Nat :=
  let c1_i32_175 : BitVec 32 := 1#32
  let v201 : Index := Scalar.indexCast c1_i32_175
  let c2_i32_150 : BitVec 32 := 2#32
  let c0_i32_149 : BitVec 32 := 0#32
  let c0_i32_86 : BitVec 32 := 0#32
  let c1_i32_88 : BitVec 32 := 1#32
  let arg10 : BitVec 32 := Scf.iv c0_i32_86 c1_i32_88 k0_t5
  let c1_i32_148 : BitVec 32 := 1#32
  let v150 : BitVec 32 := Scalar.muli arg10 c1_i32_148
  let v151 : BitVec 32 := Scalar.addi c0_i32_149 v150
  let v152 : BitVec 32 := Scalar.muli c2_i32_150 v151
  let v202 : Index := Scalar.indexCast v152
  let c80 : Index := 80#32
  ![1, v202.toNat, 80]
def k0_off66 (k0_t5 : Fin k0_t5_loop.trips) : Fin 3 → Nat :=
  let c0_i32_177 : BitVec 32 := 0#32
  let c56_i32_176 : BitVec 32 := 56#32
  let c0_i32_149 : BitVec 32 := 0#32
  let c0_i32_86 : BitVec 32 := 0#32
  let c1_i32_88 : BitVec 32 := 1#32
  let arg10 : BitVec 32 := Scf.iv c0_i32_86 c1_i32_88 k0_t5
  let c1_i32_148 : BitVec 32 := 1#32
  let v150 : BitVec 32 := Scalar.muli arg10 c1_i32_148
  let v151 : BitVec 32 := Scalar.addi c0_i32_149 v150
  let v204 : BitVec 32 := Scalar.addi c56_i32_176 v151
  let c48_i32 : BitVec 32 := 48#32
  ![0, v204.toNat, 48]
def k0_off67 (k0_t5 : Fin k0_t5_loop.trips) : Fin 3 → Nat :=
  let c1_i32_179 : BitVec 32 := 1#32
  let v210 : Index := Scalar.indexCast c1_i32_179
  let c2_i32_150 : BitVec 32 := 2#32
  let c0_i32_149 : BitVec 32 := 0#32
  let c0_i32_86 : BitVec 32 := 0#32
  let c1_i32_88 : BitVec 32 := 1#32
  let arg10 : BitVec 32 := Scf.iv c0_i32_86 c1_i32_88 k0_t5
  let c1_i32_148 : BitVec 32 := 1#32
  let v150 : BitVec 32 := Scalar.muli arg10 c1_i32_148
  let v151 : BitVec 32 := Scalar.addi c0_i32_149 v150
  let v152 : BitVec 32 := Scalar.muli c2_i32_150 v151
  let v211 : Index := Scalar.indexCast v152
  let c96 : Index := 96#32
  ![1, v211.toNat, 96]
def k0_off68 (k0_t5 : Fin k0_t5_loop.trips) : Fin 3 → Nat :=
  let c1_i32_183 : BitVec 32 := 1#32
  let v218 : Index := Scalar.indexCast c1_i32_183
  let c2_i32_150 : BitVec 32 := 2#32
  let c0_i32_149 : BitVec 32 := 0#32
  let c0_i32_86 : BitVec 32 := 0#32
  let c1_i32_88 : BitVec 32 := 1#32
  let arg10 : BitVec 32 := Scf.iv c0_i32_86 c1_i32_88 k0_t5
  let c1_i32_148 : BitVec 32 := 1#32
  let v150 : BitVec 32 := Scalar.muli arg10 c1_i32_148
  let v151 : BitVec 32 := Scalar.addi c0_i32_149 v150
  let v152 : BitVec 32 := Scalar.muli c2_i32_150 v151
  let v219 : Index := Scalar.indexCast v152
  let c112 : Index := 112#32
  ![1, v219.toNat, 112]
def k0_off69 (k0_t5 : Fin k0_t5_loop.trips) : Fin 3 → Nat :=
  let c0_i32_185 : BitVec 32 := 0#32
  let c56_i32_184 : BitVec 32 := 56#32
  let c0_i32_149 : BitVec 32 := 0#32
  let c0_i32_86 : BitVec 32 := 0#32
  let c1_i32_88 : BitVec 32 := 1#32
  let arg10 : BitVec 32 := Scf.iv c0_i32_86 c1_i32_88 k0_t5
  let c1_i32_148 : BitVec 32 := 1#32
  let v150 : BitVec 32 := Scalar.muli arg10 c1_i32_148
  let v151 : BitVec 32 := Scalar.addi c0_i32_149 v150
  let v221 : BitVec 32 := Scalar.addi c56_i32_184 v151
  let c64_i32 : BitVec 32 := 64#32
  ![0, v221.toNat, 64]
def k0_off70 (k0_t5 : Fin k0_t5_loop.trips) : Fin 3 → Nat :=
  let c1_i32_187 : BitVec 32 := 1#32
  let v227 : Index := Scalar.indexCast c1_i32_187
  let c2_i32_150 : BitVec 32 := 2#32
  let c0_i32_149 : BitVec 32 := 0#32
  let c0_i32_86 : BitVec 32 := 0#32
  let c1_i32_88 : BitVec 32 := 1#32
  let arg10 : BitVec 32 := Scf.iv c0_i32_86 c1_i32_88 k0_t5
  let c1_i32_148 : BitVec 32 := 1#32
  let v150 : BitVec 32 := Scalar.muli arg10 c1_i32_148
  let v151 : BitVec 32 := Scalar.addi c0_i32_149 v150
  let v152 : BitVec 32 := Scalar.muli c2_i32_150 v151
  let v228 : Index := Scalar.indexCast v152
  let c128 : Index := 128#32
  ![1, v228.toNat, 128]
def k0_off71 (k0_t5 : Fin k0_t5_loop.trips) : Fin 3 → Nat :=
  let c1_i32_191 : BitVec 32 := 1#32
  let v235 : Index := Scalar.indexCast c1_i32_191
  let c2_i32_150 : BitVec 32 := 2#32
  let c0_i32_149 : BitVec 32 := 0#32
  let c0_i32_86 : BitVec 32 := 0#32
  let c1_i32_88 : BitVec 32 := 1#32
  let arg10 : BitVec 32 := Scf.iv c0_i32_86 c1_i32_88 k0_t5
  let c1_i32_148 : BitVec 32 := 1#32
  let v150 : BitVec 32 := Scalar.muli arg10 c1_i32_148
  let v151 : BitVec 32 := Scalar.addi c0_i32_149 v150
  let v152 : BitVec 32 := Scalar.muli c2_i32_150 v151
  let v236 : Index := Scalar.indexCast v152
  let c144 : Index := 144#32
  ![1, v236.toNat, 144]
def k0_off72 (k0_t5 : Fin k0_t5_loop.trips) : Fin 3 → Nat :=
  let c0_i32_193 : BitVec 32 := 0#32
  let c56_i32_192 : BitVec 32 := 56#32
  let c0_i32_149 : BitVec 32 := 0#32
  let c0_i32_86 : BitVec 32 := 0#32
  let c1_i32_88 : BitVec 32 := 1#32
  let arg10 : BitVec 32 := Scf.iv c0_i32_86 c1_i32_88 k0_t5
  let c1_i32_148 : BitVec 32 := 1#32
  let v150 : BitVec 32 := Scalar.muli arg10 c1_i32_148
  let v151 : BitVec 32 := Scalar.addi c0_i32_149 v150
  let v238 : BitVec 32 := Scalar.addi c56_i32_192 v151
  let c80_i32 : BitVec 32 := 80#32
  ![0, v238.toNat, 80]
def k0_off73 (k0_t5 : Fin k0_t5_loop.trips) : Fin 3 → Nat :=
  let c1_i32_195 : BitVec 32 := 1#32
  let v244 : Index := Scalar.indexCast c1_i32_195
  let c2_i32_150 : BitVec 32 := 2#32
  let c0_i32_149 : BitVec 32 := 0#32
  let c0_i32_86 : BitVec 32 := 0#32
  let c1_i32_88 : BitVec 32 := 1#32
  let arg10 : BitVec 32 := Scf.iv c0_i32_86 c1_i32_88 k0_t5
  let c1_i32_148 : BitVec 32 := 1#32
  let v150 : BitVec 32 := Scalar.muli arg10 c1_i32_148
  let v151 : BitVec 32 := Scalar.addi c0_i32_149 v150
  let v152 : BitVec 32 := Scalar.muli c2_i32_150 v151
  let v245 : Index := Scalar.indexCast v152
  let c160 : Index := 160#32
  ![1, v245.toNat, 160]
def k0_off74 (k0_t5 : Fin k0_t5_loop.trips) : Fin 3 → Nat :=
  let c1_i32_199 : BitVec 32 := 1#32
  let v252 : Index := Scalar.indexCast c1_i32_199
  let c2_i32_150 : BitVec 32 := 2#32
  let c0_i32_149 : BitVec 32 := 0#32
  let c0_i32_86 : BitVec 32 := 0#32
  let c1_i32_88 : BitVec 32 := 1#32
  let arg10 : BitVec 32 := Scf.iv c0_i32_86 c1_i32_88 k0_t5
  let c1_i32_148 : BitVec 32 := 1#32
  let v150 : BitVec 32 := Scalar.muli arg10 c1_i32_148
  let v151 : BitVec 32 := Scalar.addi c0_i32_149 v150
  let v152 : BitVec 32 := Scalar.muli c2_i32_150 v151
  let v253 : Index := Scalar.indexCast v152
  let c176 : Index := 176#32
  ![1, v253.toNat, 176]
def k0_off75 (k0_t5 : Fin k0_t5_loop.trips) : Fin 3 → Nat :=
  let c0_i32_201 : BitVec 32 := 0#32
  let c56_i32_200 : BitVec 32 := 56#32
  let c0_i32_149 : BitVec 32 := 0#32
  let c0_i32_86 : BitVec 32 := 0#32
  let c1_i32_88 : BitVec 32 := 1#32
  let arg10 : BitVec 32 := Scf.iv c0_i32_86 c1_i32_88 k0_t5
  let c1_i32_148 : BitVec 32 := 1#32
  let v150 : BitVec 32 := Scalar.muli arg10 c1_i32_148
  let v151 : BitVec 32 := Scalar.addi c0_i32_149 v150
  let v255 : BitVec 32 := Scalar.addi c56_i32_200 v151
  let c96_i32 : BitVec 32 := 96#32
  ![0, v255.toNat, 96]
def k0_off76 (k0_t5 : Fin k0_t5_loop.trips) : Fin 3 → Nat :=
  let c1_i32_203 : BitVec 32 := 1#32
  let v261 : Index := Scalar.indexCast c1_i32_203
  let c2_i32_150 : BitVec 32 := 2#32
  let c0_i32_149 : BitVec 32 := 0#32
  let c0_i32_86 : BitVec 32 := 0#32
  let c1_i32_88 : BitVec 32 := 1#32
  let arg10 : BitVec 32 := Scf.iv c0_i32_86 c1_i32_88 k0_t5
  let c1_i32_148 : BitVec 32 := 1#32
  let v150 : BitVec 32 := Scalar.muli arg10 c1_i32_148
  let v151 : BitVec 32 := Scalar.addi c0_i32_149 v150
  let v152 : BitVec 32 := Scalar.muli c2_i32_150 v151
  let v262 : Index := Scalar.indexCast v152
  let c192 : Index := 192#32
  ![1, v262.toNat, 192]
def k0_off77 (k0_t5 : Fin k0_t5_loop.trips) : Fin 3 → Nat :=
  let c1_i32_207 : BitVec 32 := 1#32
  let v269 : Index := Scalar.indexCast c1_i32_207
  let c2_i32_150 : BitVec 32 := 2#32
  let c0_i32_149 : BitVec 32 := 0#32
  let c0_i32_86 : BitVec 32 := 0#32
  let c1_i32_88 : BitVec 32 := 1#32
  let arg10 : BitVec 32 := Scf.iv c0_i32_86 c1_i32_88 k0_t5
  let c1_i32_148 : BitVec 32 := 1#32
  let v150 : BitVec 32 := Scalar.muli arg10 c1_i32_148
  let v151 : BitVec 32 := Scalar.addi c0_i32_149 v150
  let v152 : BitVec 32 := Scalar.muli c2_i32_150 v151
  let v270 : Index := Scalar.indexCast v152
  let c208 : Index := 208#32
  ![1, v270.toNat, 208]
def k0_off78 (i : grid0.Coords) (k0_t3 : Fin k0_t3_loop.trips) (c0_i32_57 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c24_i32 : BitVec 32 := 24#32
  let v2 : BitVec 32 := Scalar.muli v1 c24_i32
  let c2_i32_56 : BitVec 32 := 2#32
  let c0_i32_30 : BitVec 32 := 0#32
  let c1_i32_31 : BitVec 32 := 1#32
  let arg8 : BitVec 32 := Scf.iv c0_i32_30 c1_i32_31 k0_t3
  let v62 : BitVec 32 := Scalar.muli c2_i32_56 arg8
  let v63 : BitVec 32 := Scalar.addi v62 c0_i32_57
  let v64 : BitVec 32 := Scalar.addi v2 v63
  let c112_i32_94 : BitVec 32 := 112#32
  let c0_i32_95 : BitVec 32 := 0#32
  ![v64.toNat, 112, 0]
def k0_cond3 (k0_t3 : Fin k0_t3_loop.trips) : BitVec 1 :=
  let c2_i32_56 : BitVec 32 := 2#32
  let c0_i32_30 : BitVec 32 := 0#32
  let c1_i32_31 : BitVec 32 := 1#32
  let arg8 : BitVec 32 := Scf.iv c0_i32_30 c1_i32_31 k0_t3
  let v62 : BitVec 32 := Scalar.muli c2_i32_56 arg8
  let c0_i32_57 : BitVec 32 := 0#32
  let v63 : BitVec 32 := Scalar.addi v62 c0_i32_57
  let c22_i32 : BitVec 32 := 22#32
  let v103 : BitVec 1 := Scalar.cmpi .slt v63 c22_i32
  let v104 : BitVec 32 := Scalar.extui v103
  let c0_i32_100 : BitVec 32 := 0#32
  let v105 : BitVec 1 := Scalar.cmpi .ne v104 c0_i32_100
  v105

def k0_off79 (i : grid0.Coords) (k0_t3 : Fin k0_t3_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c24_i32 : BitVec 32 := 24#32
  let v2 : BitVec 32 := Scalar.muli v1 c24_i32
  let c2_i32_56 : BitVec 32 := 2#32
  let c0_i32_30 : BitVec 32 := 0#32
  let c1_i32_31 : BitVec 32 := 1#32
  let arg8 : BitVec 32 := Scf.iv c0_i32_30 c1_i32_31 k0_t3
  let v62 : BitVec 32 := Scalar.muli c2_i32_56 arg8
  let c0_i32_57 : BitVec 32 := 0#32
  let v63 : BitVec 32 := Scalar.addi v62 c0_i32_57
  let v64 : BitVec 32 := Scalar.addi v2 v63
  let c2_i32_148 : BitVec 32 := 2#32
  let v150 : BitVec 32 := Scalar.addi v64 c2_i32_148
  let c0_i32_153 : BitVec 32 := 0#32
  let c0_i32_154 : BitVec 32 := 0#32
  ![v150.toNat, 0, 0]
def k0_off80 (i : grid0.Coords) (k0_t3 : Fin k0_t3_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c24_i32 : BitVec 32 := 24#32
  let v2 : BitVec 32 := Scalar.muli v1 c24_i32
  let c2_i32_101 : BitVec 32 := 2#32
  let c0_i32_30 : BitVec 32 := 0#32
  let c1_i32_31 : BitVec 32 := 1#32
  let arg8 : BitVec 32 := Scf.iv c0_i32_30 c1_i32_31 k0_t3
  let v106 : BitVec 32 := Scalar.muli c2_i32_101 arg8
  let c1_i32_102 : BitVec 32 := 1#32
  let v107 : BitVec 32 := Scalar.addi v106 c1_i32_102
  let v108 : BitVec 32 := Scalar.addi v2 v107
  let c0_i32_107 : BitVec 32 := 0#32
  let c0_i32_108 : BitVec 32 := 0#32
  ![v108.toNat, 0, 0]
def k0_cond4 (k0_t3 : Fin k0_t3_loop.trips) : BitVec 1 :=
  let c2_i32_101 : BitVec 32 := 2#32
  let c0_i32_30 : BitVec 32 := 0#32
  let c1_i32_31 : BitVec 32 := 1#32
  let arg8 : BitVec 32 := Scf.iv c0_i32_30 c1_i32_31 k0_t3
  let v106 : BitVec 32 := Scalar.muli c2_i32_101 arg8
  let c1_i32_102 : BitVec 32 := 1#32
  let v107 : BitVec 32 := Scalar.addi v106 c1_i32_102
  let c1_i32_113 : BitVec 32 := 1#32
  let v119 : BitVec 1 := Scalar.cmpi .sge v107 c1_i32_113
  let v120 : BitVec 32 := Scalar.extui v119
  let c0_i32_114 : BitVec 32 := 0#32
  let v121 : BitVec 1 := Scalar.cmpi .ne v120 c0_i32_114
  v121

def k0_off81 (i : grid0.Coords) (k0_t3 : Fin k0_t3_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c24_i32 : BitVec 32 := 24#32
  let v2 : BitVec 32 := Scalar.muli v1 c24_i32
  let c2_i32_101 : BitVec 32 := 2#32
  let c0_i32_30 : BitVec 32 := 0#32
  let c1_i32_31 : BitVec 32 := 1#32
  let arg8 : BitVec 32 := Scf.iv c0_i32_30 c1_i32_31 k0_t3
  let v106 : BitVec 32 := Scalar.muli c2_i32_101 arg8
  let c1_i32_102 : BitVec 32 := 1#32
  let v107 : BitVec 32 := Scalar.addi v106 c1_i32_102
  let v108 : BitVec 32 := Scalar.addi v2 v107
  let c1_i32_148 : BitVec 32 := 1#32
  let v150 : BitVec 32 := Scalar.subi v108 c1_i32_148
  let c0_i32_153 : BitVec 32 := 0#32
  let c0_i32_154 : BitVec 32 := 0#32
  ![v150.toNat, 0, 0]
@[reducible] def k0_t6_loop : Scf.Loop 32 :=
  let c0_i32_115 : BitVec 32 := 0#32
  let c56_i32_116 : BitVec 32 := 56#32
  let v122 : BitVec 32 := Scalar.addi c0_i32_115 c56_i32_116
  let c1_i32_117 : BitVec 32 := 1#32
  ⟨c0_i32_115, v122, c1_i32_117⟩
def k0_off82 (k0_t6 : Fin k0_t6_loop.trips) : Fin 3 → Nat :=
  let c1_i32_152 : BitVec 32 := 1#32
  let c0_i32_151 : BitVec 32 := 0#32
  let c0_i32_149 : BitVec 32 := 0#32
  let c0_i32_115 : BitVec 32 := 0#32
  let c1_i32_117 : BitVec 32 := 1#32
  let arg10 : BitVec 32 := Scf.iv c0_i32_115 c1_i32_117 k0_t6
  let c1_i32_148 : BitVec 32 := 1#32
  let v150 : BitVec 32 := Scalar.muli arg10 c1_i32_148
  let v151 : BitVec 32 := Scalar.addi c0_i32_149 v150
  let v153 : BitVec 32 := Scalar.addi c0_i32_151 v151
  let c0_i32_153 : BitVec 32 := 0#32
  ![1, v153.toNat, 0]
def k0_off83 (k0_t6 : Fin k0_t6_loop.trips) : Fin 3 → Nat :=
  let c0_i32_155 : BitVec 32 := 0#32
  let v159 : Index := Scalar.indexCast c0_i32_155
  let c2_i32_150 : BitVec 32 := 2#32
  let c0_i32_149 : BitVec 32 := 0#32
  let c0_i32_115 : BitVec 32 := 0#32
  let c1_i32_117 : BitVec 32 := 1#32
  let arg10 : BitVec 32 := Scf.iv c0_i32_115 c1_i32_117 k0_t6
  let c1_i32_148 : BitVec 32 := 1#32
  let v150 : BitVec 32 := Scalar.muli arg10 c1_i32_148
  let v151 : BitVec 32 := Scalar.addi c0_i32_149 v150
  let v152 : BitVec 32 := Scalar.muli c2_i32_150 v151
  let v160 : Index := Scalar.indexCast v152
  let c0 : Index := 0#32
  ![0, v160.toNat, 0]
def k0_off84 (k0_t6 : Fin k0_t6_loop.trips) : Fin 3 → Nat :=
  let c0_i32_159 : BitVec 32 := 0#32
  let v167 : Index := Scalar.indexCast c0_i32_159
  let c2_i32_150 : BitVec 32 := 2#32
  let c0_i32_149 : BitVec 32 := 0#32
  let c0_i32_115 : BitVec 32 := 0#32
  let c1_i32_117 : BitVec 32 := 1#32
  let arg10 : BitVec 32 := Scf.iv c0_i32_115 c1_i32_117 k0_t6
  let c1_i32_148 : BitVec 32 := 1#32
  let v150 : BitVec 32 := Scalar.muli arg10 c1_i32_148
  let v151 : BitVec 32 := Scalar.addi c0_i32_149 v150
  let v152 : BitVec 32 := Scalar.muli c2_i32_150 v151
  let v168 : Index := Scalar.indexCast v152
  let c16 : Index := 16#32
  ![0, v168.toNat, 16]
def k0_off85 (k0_t6 : Fin k0_t6_loop.trips) : Fin 3 → Nat :=
  let c1_i32_161 : BitVec 32 := 1#32
  let c0_i32_160 : BitVec 32 := 0#32
  let c0_i32_149 : BitVec 32 := 0#32
  let c0_i32_115 : BitVec 32 := 0#32
  let c1_i32_117 : BitVec 32 := 1#32
  let arg10 : BitVec 32 := Scf.iv c0_i32_115 c1_i32_117 k0_t6
  let c1_i32_148 : BitVec 32 := 1#32
  let v150 : BitVec 32 := Scalar.muli arg10 c1_i32_148
  let v151 : BitVec 32 := Scalar.addi c0_i32_149 v150
  let v170 : BitVec 32 := Scalar.addi c0_i32_160 v151
  let c16_i32 : BitVec 32 := 16#32
  ![1, v170.toNat, 16]
def k0_off86 (k0_t6 : Fin k0_t6_loop.trips) : Fin 3 → Nat :=
  let c0_i32_163 : BitVec 32 := 0#32
  let v176 : Index := Scalar.indexCast c0_i32_163
  let c2_i32_150 : BitVec 32 := 2#32
  let c0_i32_149 : BitVec 32 := 0#32
  let c0_i32_115 : BitVec 32 := 0#32
  let c1_i32_117 : BitVec 32 := 1#32
  let arg10 : BitVec 32 := Scf.iv c0_i32_115 c1_i32_117 k0_t6
  let c1_i32_148 : BitVec 32 := 1#32
  let v150 : BitVec 32 := Scalar.muli arg10 c1_i32_148
  let v151 : BitVec 32 := Scalar.addi c0_i32_149 v150
  let v152 : BitVec 32 := Scalar.muli c2_i32_150 v151
  let v177 : Index := Scalar.indexCast v152
  let c32 : Index := 32#32
  ![0, v177.toNat, 32]
def k0_off87 (k0_t6 : Fin k0_t6_loop.trips) : Fin 3 → Nat :=
  let c0_i32_167 : BitVec 32 := 0#32
  let v184 : Index := Scalar.indexCast c0_i32_167
  let c2_i32_150 : BitVec 32 := 2#32
  let c0_i32_149 : BitVec 32 := 0#32
  let c0_i32_115 : BitVec 32 := 0#32
  let c1_i32_117 : BitVec 32 := 1#32
  let arg10 : BitVec 32 := Scf.iv c0_i32_115 c1_i32_117 k0_t6
  let c1_i32_148 : BitVec 32 := 1#32
  let v150 : BitVec 32 := Scalar.muli arg10 c1_i32_148
  let v151 : BitVec 32 := Scalar.addi c0_i32_149 v150
  let v152 : BitVec 32 := Scalar.muli c2_i32_150 v151
  let v185 : Index := Scalar.indexCast v152
  let c48 : Index := 48#32
  ![0, v185.toNat, 48]
def k0_off88 (k0_t6 : Fin k0_t6_loop.trips) : Fin 3 → Nat :=
  let c1_i32_169 : BitVec 32 := 1#32
  let c0_i32_168 : BitVec 32 := 0#32
  let c0_i32_149 : BitVec 32 := 0#32
  let c0_i32_115 : BitVec 32 := 0#32
  let c1_i32_117 : BitVec 32 := 1#32
  let arg10 : BitVec 32 := Scf.iv c0_i32_115 c1_i32_117 k0_t6
  let c1_i32_148 : BitVec 32 := 1#32
  let v150 : BitVec 32 := Scalar.muli arg10 c1_i32_148
  let v151 : BitVec 32 := Scalar.addi c0_i32_149 v150
  let v187 : BitVec 32 := Scalar.addi c0_i32_168 v151
  let c32_i32 : BitVec 32 := 32#32
  ![1, v187.toNat, 32]
def k0_off89 (k0_t6 : Fin k0_t6_loop.trips) : Fin 3 → Nat :=
  let c0_i32_171 : BitVec 32 := 0#32
  let v193 : Index := Scalar.indexCast c0_i32_171
  let c2_i32_150 : BitVec 32 := 2#32
  let c0_i32_149 : BitVec 32 := 0#32
  let c0_i32_115 : BitVec 32 := 0#32
  let c1_i32_117 : BitVec 32 := 1#32
  let arg10 : BitVec 32 := Scf.iv c0_i32_115 c1_i32_117 k0_t6
  let c1_i32_148 : BitVec 32 := 1#32
  let v150 : BitVec 32 := Scalar.muli arg10 c1_i32_148
  let v151 : BitVec 32 := Scalar.addi c0_i32_149 v150
  let v152 : BitVec 32 := Scalar.muli c2_i32_150 v151
  let v194 : Index := Scalar.indexCast v152
  let c64 : Index := 64#32
  ![0, v194.toNat, 64]
def k0_off90 (k0_t6 : Fin k0_t6_loop.trips) : Fin 3 → Nat :=
  let c0_i32_175 : BitVec 32 := 0#32
  let v201 : Index := Scalar.indexCast c0_i32_175
  let c2_i32_150 : BitVec 32 := 2#32
  let c0_i32_149 : BitVec 32 := 0#32
  let c0_i32_115 : BitVec 32 := 0#32
  let c1_i32_117 : BitVec 32 := 1#32
  let arg10 : BitVec 32 := Scf.iv c0_i32_115 c1_i32_117 k0_t6
  let c1_i32_148 : BitVec 32 := 1#32
  let v150 : BitVec 32 := Scalar.muli arg10 c1_i32_148
  let v151 : BitVec 32 := Scalar.addi c0_i32_149 v150
  let v152 : BitVec 32 := Scalar.muli c2_i32_150 v151
  let v202 : Index := Scalar.indexCast v152
  let c80 : Index := 80#32
  ![0, v202.toNat, 80]
def k0_off91 (k0_t6 : Fin k0_t6_loop.trips) : Fin 3 → Nat :=
  let c1_i32_177 : BitVec 32 := 1#32
  let c0_i32_176 : BitVec 32 := 0#32
  let c0_i32_149 : BitVec 32 := 0#32
  let c0_i32_115 : BitVec 32 := 0#32
  let c1_i32_117 : BitVec 32 := 1#32
  let arg10 : BitVec 32 := Scf.iv c0_i32_115 c1_i32_117 k0_t6
  let c1_i32_148 : BitVec 32 := 1#32
  let v150 : BitVec 32 := Scalar.muli arg10 c1_i32_148
  let v151 : BitVec 32 := Scalar.addi c0_i32_149 v150
  let v204 : BitVec 32 := Scalar.addi c0_i32_176 v151
  let c48_i32 : BitVec 32 := 48#32
  ![1, v204.toNat, 48]
def k0_off92 (k0_t6 : Fin k0_t6_loop.trips) : Fin 3 → Nat :=
  let c0_i32_179 : BitVec 32 := 0#32
  let v210 : Index := Scalar.indexCast c0_i32_179
  let c2_i32_150 : BitVec 32 := 2#32
  let c0_i32_149 : BitVec 32 := 0#32
  let c0_i32_115 : BitVec 32 := 0#32
  let c1_i32_117 : BitVec 32 := 1#32
  let arg10 : BitVec 32 := Scf.iv c0_i32_115 c1_i32_117 k0_t6
  let c1_i32_148 : BitVec 32 := 1#32
  let v150 : BitVec 32 := Scalar.muli arg10 c1_i32_148
  let v151 : BitVec 32 := Scalar.addi c0_i32_149 v150
  let v152 : BitVec 32 := Scalar.muli c2_i32_150 v151
  let v211 : Index := Scalar.indexCast v152
  let c96 : Index := 96#32
  ![0, v211.toNat, 96]
def k0_off93 (k0_t6 : Fin k0_t6_loop.trips) : Fin 3 → Nat :=
  let c0_i32_183 : BitVec 32 := 0#32
  let v218 : Index := Scalar.indexCast c0_i32_183
  let c2_i32_150 : BitVec 32 := 2#32
  let c0_i32_149 : BitVec 32 := 0#32
  let c0_i32_115 : BitVec 32 := 0#32
  let c1_i32_117 : BitVec 32 := 1#32
  let arg10 : BitVec 32 := Scf.iv c0_i32_115 c1_i32_117 k0_t6
  let c1_i32_148 : BitVec 32 := 1#32
  let v150 : BitVec 32 := Scalar.muli arg10 c1_i32_148
  let v151 : BitVec 32 := Scalar.addi c0_i32_149 v150
  let v152 : BitVec 32 := Scalar.muli c2_i32_150 v151
  let v219 : Index := Scalar.indexCast v152
  let c112 : Index := 112#32
  ![0, v219.toNat, 112]
def k0_off94 (k0_t6 : Fin k0_t6_loop.trips) : Fin 3 → Nat :=
  let c1_i32_185 : BitVec 32 := 1#32
  let c0_i32_184 : BitVec 32 := 0#32
  let c0_i32_149 : BitVec 32 := 0#32
  let c0_i32_115 : BitVec 32 := 0#32
  let c1_i32_117 : BitVec 32 := 1#32
  let arg10 : BitVec 32 := Scf.iv c0_i32_115 c1_i32_117 k0_t6
  let c1_i32_148 : BitVec 32 := 1#32
  let v150 : BitVec 32 := Scalar.muli arg10 c1_i32_148
  let v151 : BitVec 32 := Scalar.addi c0_i32_149 v150
  let v221 : BitVec 32 := Scalar.addi c0_i32_184 v151
  let c64_i32 : BitVec 32 := 64#32
  ![1, v221.toNat, 64]
def k0_off95 (k0_t6 : Fin k0_t6_loop.trips) : Fin 3 → Nat :=
  let c0_i32_187 : BitVec 32 := 0#32
  let v227 : Index := Scalar.indexCast c0_i32_187
  let c2_i32_150 : BitVec 32 := 2#32
  let c0_i32_149 : BitVec 32 := 0#32
  let c0_i32_115 : BitVec 32 := 0#32
  let c1_i32_117 : BitVec 32 := 1#32
  let arg10 : BitVec 32 := Scf.iv c0_i32_115 c1_i32_117 k0_t6
  let c1_i32_148 : BitVec 32 := 1#32
  let v150 : BitVec 32 := Scalar.muli arg10 c1_i32_148
  let v151 : BitVec 32 := Scalar.addi c0_i32_149 v150
  let v152 : BitVec 32 := Scalar.muli c2_i32_150 v151
  let v228 : Index := Scalar.indexCast v152
  let c128 : Index := 128#32
  ![0, v228.toNat, 128]
def k0_off96 (k0_t6 : Fin k0_t6_loop.trips) : Fin 3 → Nat :=
  let c0_i32_191 : BitVec 32 := 0#32
  let v235 : Index := Scalar.indexCast c0_i32_191
  let c2_i32_150 : BitVec 32 := 2#32
  let c0_i32_149 : BitVec 32 := 0#32
  let c0_i32_115 : BitVec 32 := 0#32
  let c1_i32_117 : BitVec 32 := 1#32
  let arg10 : BitVec 32 := Scf.iv c0_i32_115 c1_i32_117 k0_t6
  let c1_i32_148 : BitVec 32 := 1#32
  let v150 : BitVec 32 := Scalar.muli arg10 c1_i32_148
  let v151 : BitVec 32 := Scalar.addi c0_i32_149 v150
  let v152 : BitVec 32 := Scalar.muli c2_i32_150 v151
  let v236 : Index := Scalar.indexCast v152
  let c144 : Index := 144#32
  ![0, v236.toNat, 144]
def k0_off97 (k0_t6 : Fin k0_t6_loop.trips) : Fin 3 → Nat :=
  let c1_i32_193 : BitVec 32 := 1#32
  let c0_i32_192 : BitVec 32 := 0#32
  let c0_i32_149 : BitVec 32 := 0#32
  let c0_i32_115 : BitVec 32 := 0#32
  let c1_i32_117 : BitVec 32 := 1#32
  let arg10 : BitVec 32 := Scf.iv c0_i32_115 c1_i32_117 k0_t6
  let c1_i32_148 : BitVec 32 := 1#32
  let v150 : BitVec 32 := Scalar.muli arg10 c1_i32_148
  let v151 : BitVec 32 := Scalar.addi c0_i32_149 v150
  let v238 : BitVec 32 := Scalar.addi c0_i32_192 v151
  let c80_i32 : BitVec 32 := 80#32
  ![1, v238.toNat, 80]
def k0_off98 (k0_t6 : Fin k0_t6_loop.trips) : Fin 3 → Nat :=
  let c0_i32_195 : BitVec 32 := 0#32
  let v244 : Index := Scalar.indexCast c0_i32_195
  let c2_i32_150 : BitVec 32 := 2#32
  let c0_i32_149 : BitVec 32 := 0#32
  let c0_i32_115 : BitVec 32 := 0#32
  let c1_i32_117 : BitVec 32 := 1#32
  let arg10 : BitVec 32 := Scf.iv c0_i32_115 c1_i32_117 k0_t6
  let c1_i32_148 : BitVec 32 := 1#32
  let v150 : BitVec 32 := Scalar.muli arg10 c1_i32_148
  let v151 : BitVec 32 := Scalar.addi c0_i32_149 v150
  let v152 : BitVec 32 := Scalar.muli c2_i32_150 v151
  let v245 : Index := Scalar.indexCast v152
  let c160 : Index := 160#32
  ![0, v245.toNat, 160]
def k0_off99 (k0_t6 : Fin k0_t6_loop.trips) : Fin 3 → Nat :=
  let c0_i32_199 : BitVec 32 := 0#32
  let v252 : Index := Scalar.indexCast c0_i32_199
  let c2_i32_150 : BitVec 32 := 2#32
  let c0_i32_149 : BitVec 32 := 0#32
  let c0_i32_115 : BitVec 32 := 0#32
  let c1_i32_117 : BitVec 32 := 1#32
  let arg10 : BitVec 32 := Scf.iv c0_i32_115 c1_i32_117 k0_t6
  let c1_i32_148 : BitVec 32 := 1#32
  let v150 : BitVec 32 := Scalar.muli arg10 c1_i32_148
  let v151 : BitVec 32 := Scalar.addi c0_i32_149 v150
  let v152 : BitVec 32 := Scalar.muli c2_i32_150 v151
  let v253 : Index := Scalar.indexCast v152
  let c176 : Index := 176#32
  ![0, v253.toNat, 176]
def k0_off100 (k0_t6 : Fin k0_t6_loop.trips) : Fin 3 → Nat :=
  let c1_i32_201 : BitVec 32 := 1#32
  let c0_i32_200 : BitVec 32 := 0#32
  let c0_i32_149 : BitVec 32 := 0#32
  let c0_i32_115 : BitVec 32 := 0#32
  let c1_i32_117 : BitVec 32 := 1#32
  let arg10 : BitVec 32 := Scf.iv c0_i32_115 c1_i32_117 k0_t6
  let c1_i32_148 : BitVec 32 := 1#32
  let v150 : BitVec 32 := Scalar.muli arg10 c1_i32_148
  let v151 : BitVec 32 := Scalar.addi c0_i32_149 v150
  let v255 : BitVec 32 := Scalar.addi c0_i32_200 v151
  let c96_i32 : BitVec 32 := 96#32
  ![1, v255.toNat, 96]
def k0_off101 (k0_t6 : Fin k0_t6_loop.trips) : Fin 3 → Nat :=
  let c0_i32_203 : BitVec 32 := 0#32
  let v261 : Index := Scalar.indexCast c0_i32_203
  let c2_i32_150 : BitVec 32 := 2#32
  let c0_i32_149 : BitVec 32 := 0#32
  let c0_i32_115 : BitVec 32 := 0#32
  let c1_i32_117 : BitVec 32 := 1#32
  let arg10 : BitVec 32 := Scf.iv c0_i32_115 c1_i32_117 k0_t6
  let c1_i32_148 : BitVec 32 := 1#32
  let v150 : BitVec 32 := Scalar.muli arg10 c1_i32_148
  let v151 : BitVec 32 := Scalar.addi c0_i32_149 v150
  let v152 : BitVec 32 := Scalar.muli c2_i32_150 v151
  let v262 : Index := Scalar.indexCast v152
  let c192 : Index := 192#32
  ![0, v262.toNat, 192]
def k0_off102 (k0_t6 : Fin k0_t6_loop.trips) : Fin 3 → Nat :=
  let c0_i32_207 : BitVec 32 := 0#32
  let v269 : Index := Scalar.indexCast c0_i32_207
  let c2_i32_150 : BitVec 32 := 2#32
  let c0_i32_149 : BitVec 32 := 0#32
  let c0_i32_115 : BitVec 32 := 0#32
  let c1_i32_117 : BitVec 32 := 1#32
  let arg10 : BitVec 32 := Scf.iv c0_i32_115 c1_i32_117 k0_t6
  let c1_i32_148 : BitVec 32 := 1#32
  let v150 : BitVec 32 := Scalar.muli arg10 c1_i32_148
  let v151 : BitVec 32 := Scalar.addi c0_i32_149 v150
  let v152 : BitVec 32 := Scalar.muli c2_i32_150 v151
  let v270 : Index := Scalar.indexCast v152
  let c208 : Index := 208#32
  ![0, v270.toNat, 208]
def k0_cond5 (k0_t3 : Fin k0_t3_loop.trips) : BitVec 1 :=
  let c2_i32_101 : BitVec 32 := 2#32
  let c0_i32_30 : BitVec 32 := 0#32
  let c1_i32_31 : BitVec 32 := 1#32
  let arg8 : BitVec 32 := Scf.iv c0_i32_30 c1_i32_31 k0_t3
  let v106 : BitVec 32 := Scalar.muli c2_i32_101 arg8
  let c1_i32_102 : BitVec 32 := 1#32
  let v107 : BitVec 32 := Scalar.addi v106 c1_i32_102
  let c1_i32_129 : BitVec 32 := 1#32
  let v133 : BitVec 1 := Scalar.cmpi .sge v107 c1_i32_129
  let v134 : BitVec 32 := Scalar.extui v133
  let c0_i32_130 : BitVec 32 := 0#32
  let v135 : BitVec 1 := Scalar.cmpi .ne v134 c0_i32_130
  v135

def k0_off103 (i : grid0.Coords) (k0_t3 : Fin k0_t3_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c24_i32 : BitVec 32 := 24#32
  let v2 : BitVec 32 := Scalar.muli v1 c24_i32
  let c2_i32_101 : BitVec 32 := 2#32
  let c0_i32_30 : BitVec 32 := 0#32
  let c1_i32_31 : BitVec 32 := 1#32
  let arg8 : BitVec 32 := Scf.iv c0_i32_30 c1_i32_31 k0_t3
  let v106 : BitVec 32 := Scalar.muli c2_i32_101 arg8
  let c1_i32_102 : BitVec 32 := 1#32
  let v107 : BitVec 32 := Scalar.addi v106 c1_i32_102
  let v108 : BitVec 32 := Scalar.addi v2 v107
  let c1_i32_148 : BitVec 32 := 1#32
  let v150 : BitVec 32 := Scalar.subi v108 c1_i32_148
  let c112_i32_153 : BitVec 32 := 112#32
  let c0_i32_154 : BitVec 32 := 0#32
  ![v150.toNat, 112, 0]
@[reducible] def k0_t7_loop : Scf.Loop 32 :=
  let c0_i32_131 : BitVec 32 := 0#32
  let c56_i32_132 : BitVec 32 := 56#32
  let v136 : BitVec 32 := Scalar.addi c0_i32_131 c56_i32_132
  let c1_i32_133 : BitVec 32 := 1#32
  ⟨c0_i32_131, v136, c1_i32_133⟩
def k0_off104 (k0_t7 : Fin k0_t7_loop.trips) : Fin 3 → Nat :=
  let c1_i32_152 : BitVec 32 := 1#32
  let c56_i32_151 : BitVec 32 := 56#32
  let c0_i32_149 : BitVec 32 := 0#32
  let c0_i32_131 : BitVec 32 := 0#32
  let c1_i32_133 : BitVec 32 := 1#32
  let arg10 : BitVec 32 := Scf.iv c0_i32_131 c1_i32_133 k0_t7
  let c1_i32_148 : BitVec 32 := 1#32
  let v150 : BitVec 32 := Scalar.muli arg10 c1_i32_148
  let v151 : BitVec 32 := Scalar.addi c0_i32_149 v150
  let v153 : BitVec 32 := Scalar.addi c56_i32_151 v151
  let c0_i32_153 : BitVec 32 := 0#32
  ![1, v153.toNat, 0]
def k0_off105 (k0_t7 : Fin k0_t7_loop.trips) : Fin 3 → Nat :=
  let c1_i32_155 : BitVec 32 := 1#32
  let v159 : Index := Scalar.indexCast c1_i32_155
  let c2_i32_150 : BitVec 32 := 2#32
  let c0_i32_149 : BitVec 32 := 0#32
  let c0_i32_131 : BitVec 32 := 0#32
  let c1_i32_133 : BitVec 32 := 1#32
  let arg10 : BitVec 32 := Scf.iv c0_i32_131 c1_i32_133 k0_t7
  let c1_i32_148 : BitVec 32 := 1#32
  let v150 : BitVec 32 := Scalar.muli arg10 c1_i32_148
  let v151 : BitVec 32 := Scalar.addi c0_i32_149 v150
  let v152 : BitVec 32 := Scalar.muli c2_i32_150 v151
  let v160 : Index := Scalar.indexCast v152
  let c0 : Index := 0#32
  ![1, v160.toNat, 0]
def k0_off106 (k0_t7 : Fin k0_t7_loop.trips) : Fin 3 → Nat :=
  let c1_i32_159 : BitVec 32 := 1#32
  let v167 : Index := Scalar.indexCast c1_i32_159
  let c2_i32_150 : BitVec 32 := 2#32
  let c0_i32_149 : BitVec 32 := 0#32
  let c0_i32_131 : BitVec 32 := 0#32
  let c1_i32_133 : BitVec 32 := 1#32
  let arg10 : BitVec 32 := Scf.iv c0_i32_131 c1_i32_133 k0_t7
  let c1_i32_148 : BitVec 32 := 1#32
  let v150 : BitVec 32 := Scalar.muli arg10 c1_i32_148
  let v151 : BitVec 32 := Scalar.addi c0_i32_149 v150
  let v152 : BitVec 32 := Scalar.muli c2_i32_150 v151
  let v168 : Index := Scalar.indexCast v152
  let c16 : Index := 16#32
  ![1, v168.toNat, 16]
def k0_off107 (k0_t7 : Fin k0_t7_loop.trips) : Fin 3 → Nat :=
  let c1_i32_161 : BitVec 32 := 1#32
  let c56_i32_160 : BitVec 32 := 56#32
  let c0_i32_149 : BitVec 32 := 0#32
  let c0_i32_131 : BitVec 32 := 0#32
  let c1_i32_133 : BitVec 32 := 1#32
  let arg10 : BitVec 32 := Scf.iv c0_i32_131 c1_i32_133 k0_t7
  let c1_i32_148 : BitVec 32 := 1#32
  let v150 : BitVec 32 := Scalar.muli arg10 c1_i32_148
  let v151 : BitVec 32 := Scalar.addi c0_i32_149 v150
  let v170 : BitVec 32 := Scalar.addi c56_i32_160 v151
  let c16_i32 : BitVec 32 := 16#32
  ![1, v170.toNat, 16]
def k0_off108 (k0_t7 : Fin k0_t7_loop.trips) : Fin 3 → Nat :=
  let c1_i32_163 : BitVec 32 := 1#32
  let v176 : Index := Scalar.indexCast c1_i32_163
  let c2_i32_150 : BitVec 32 := 2#32
  let c0_i32_149 : BitVec 32 := 0#32
  let c0_i32_131 : BitVec 32 := 0#32
  let c1_i32_133 : BitVec 32 := 1#32
  let arg10 : BitVec 32 := Scf.iv c0_i32_131 c1_i32_133 k0_t7
  let c1_i32_148 : BitVec 32 := 1#32
  let v150 : BitVec 32 := Scalar.muli arg10 c1_i32_148
  let v151 : BitVec 32 := Scalar.addi c0_i32_149 v150
  let v152 : BitVec 32 := Scalar.muli c2_i32_150 v151
  let v177 : Index := Scalar.indexCast v152
  let c32 : Index := 32#32
  ![1, v177.toNat, 32]
def k0_off109 (k0_t7 : Fin k0_t7_loop.trips) : Fin 3 → Nat :=
  let c1_i32_167 : BitVec 32 := 1#32
  let v184 : Index := Scalar.indexCast c1_i32_167
  let c2_i32_150 : BitVec 32 := 2#32
  let c0_i32_149 : BitVec 32 := 0#32
  let c0_i32_131 : BitVec 32 := 0#32
  let c1_i32_133 : BitVec 32 := 1#32
  let arg10 : BitVec 32 := Scf.iv c0_i32_131 c1_i32_133 k0_t7
  let c1_i32_148 : BitVec 32 := 1#32
  let v150 : BitVec 32 := Scalar.muli arg10 c1_i32_148
  let v151 : BitVec 32 := Scalar.addi c0_i32_149 v150
  let v152 : BitVec 32 := Scalar.muli c2_i32_150 v151
  let v185 : Index := Scalar.indexCast v152
  let c48 : Index := 48#32
  ![1, v185.toNat, 48]
def k0_off110 (k0_t7 : Fin k0_t7_loop.trips) : Fin 3 → Nat :=
  let c1_i32_169 : BitVec 32 := 1#32
  let c56_i32_168 : BitVec 32 := 56#32
  let c0_i32_149 : BitVec 32 := 0#32
  let c0_i32_131 : BitVec 32 := 0#32
  let c1_i32_133 : BitVec 32 := 1#32
  let arg10 : BitVec 32 := Scf.iv c0_i32_131 c1_i32_133 k0_t7
  let c1_i32_148 : BitVec 32 := 1#32
  let v150 : BitVec 32 := Scalar.muli arg10 c1_i32_148
  let v151 : BitVec 32 := Scalar.addi c0_i32_149 v150
  let v187 : BitVec 32 := Scalar.addi c56_i32_168 v151
  let c32_i32 : BitVec 32 := 32#32
  ![1, v187.toNat, 32]
def k0_off111 (k0_t7 : Fin k0_t7_loop.trips) : Fin 3 → Nat :=
  let c1_i32_171 : BitVec 32 := 1#32
  let v193 : Index := Scalar.indexCast c1_i32_171
  let c2_i32_150 : BitVec 32 := 2#32
  let c0_i32_149 : BitVec 32 := 0#32
  let c0_i32_131 : BitVec 32 := 0#32
  let c1_i32_133 : BitVec 32 := 1#32
  let arg10 : BitVec 32 := Scf.iv c0_i32_131 c1_i32_133 k0_t7
  let c1_i32_148 : BitVec 32 := 1#32
  let v150 : BitVec 32 := Scalar.muli arg10 c1_i32_148
  let v151 : BitVec 32 := Scalar.addi c0_i32_149 v150
  let v152 : BitVec 32 := Scalar.muli c2_i32_150 v151
  let v194 : Index := Scalar.indexCast v152
  let c64 : Index := 64#32
  ![1, v194.toNat, 64]
def k0_off112 (k0_t7 : Fin k0_t7_loop.trips) : Fin 3 → Nat :=
  let c1_i32_175 : BitVec 32 := 1#32
  let v201 : Index := Scalar.indexCast c1_i32_175
  let c2_i32_150 : BitVec 32 := 2#32
  let c0_i32_149 : BitVec 32 := 0#32
  let c0_i32_131 : BitVec 32 := 0#32
  let c1_i32_133 : BitVec 32 := 1#32
  let arg10 : BitVec 32 := Scf.iv c0_i32_131 c1_i32_133 k0_t7
  let c1_i32_148 : BitVec 32 := 1#32
  let v150 : BitVec 32 := Scalar.muli arg10 c1_i32_148
  let v151 : BitVec 32 := Scalar.addi c0_i32_149 v150
  let v152 : BitVec 32 := Scalar.muli c2_i32_150 v151
  let v202 : Index := Scalar.indexCast v152
  let c80 : Index := 80#32
  ![1, v202.toNat, 80]
def k0_off113 (k0_t7 : Fin k0_t7_loop.trips) : Fin 3 → Nat :=
  let c1_i32_177 : BitVec 32 := 1#32
  let c56_i32_176 : BitVec 32 := 56#32
  let c0_i32_149 : BitVec 32 := 0#32
  let c0_i32_131 : BitVec 32 := 0#32
  let c1_i32_133 : BitVec 32 := 1#32
  let arg10 : BitVec 32 := Scf.iv c0_i32_131 c1_i32_133 k0_t7
  let c1_i32_148 : BitVec 32 := 1#32
  let v150 : BitVec 32 := Scalar.muli arg10 c1_i32_148
  let v151 : BitVec 32 := Scalar.addi c0_i32_149 v150
  let v204 : BitVec 32 := Scalar.addi c56_i32_176 v151
  let c48_i32 : BitVec 32 := 48#32
  ![1, v204.toNat, 48]
def k0_off114 (k0_t7 : Fin k0_t7_loop.trips) : Fin 3 → Nat :=
  let c1_i32_179 : BitVec 32 := 1#32
  let v210 : Index := Scalar.indexCast c1_i32_179
  let c2_i32_150 : BitVec 32 := 2#32
  let c0_i32_149 : BitVec 32 := 0#32
  let c0_i32_131 : BitVec 32 := 0#32
  let c1_i32_133 : BitVec 32 := 1#32
  let arg10 : BitVec 32 := Scf.iv c0_i32_131 c1_i32_133 k0_t7
  let c1_i32_148 : BitVec 32 := 1#32
  let v150 : BitVec 32 := Scalar.muli arg10 c1_i32_148
  let v151 : BitVec 32 := Scalar.addi c0_i32_149 v150
  let v152 : BitVec 32 := Scalar.muli c2_i32_150 v151
  let v211 : Index := Scalar.indexCast v152
  let c96 : Index := 96#32
  ![1, v211.toNat, 96]
def k0_off115 (k0_t7 : Fin k0_t7_loop.trips) : Fin 3 → Nat :=
  let c1_i32_183 : BitVec 32 := 1#32
  let v218 : Index := Scalar.indexCast c1_i32_183
  let c2_i32_150 : BitVec 32 := 2#32
  let c0_i32_149 : BitVec 32 := 0#32
  let c0_i32_131 : BitVec 32 := 0#32
  let c1_i32_133 : BitVec 32 := 1#32
  let arg10 : BitVec 32 := Scf.iv c0_i32_131 c1_i32_133 k0_t7
  let c1_i32_148 : BitVec 32 := 1#32
  let v150 : BitVec 32 := Scalar.muli arg10 c1_i32_148
  let v151 : BitVec 32 := Scalar.addi c0_i32_149 v150
  let v152 : BitVec 32 := Scalar.muli c2_i32_150 v151
  let v219 : Index := Scalar.indexCast v152
  let c112 : Index := 112#32
  ![1, v219.toNat, 112]
def k0_off116 (k0_t7 : Fin k0_t7_loop.trips) : Fin 3 → Nat :=
  let c1_i32_185 : BitVec 32 := 1#32
  let c56_i32_184 : BitVec 32 := 56#32
  let c0_i32_149 : BitVec 32 := 0#32
  let c0_i32_131 : BitVec 32 := 0#32
  let c1_i32_133 : BitVec 32 := 1#32
  let arg10 : BitVec 32 := Scf.iv c0_i32_131 c1_i32_133 k0_t7
  let c1_i32_148 : BitVec 32 := 1#32
  let v150 : BitVec 32 := Scalar.muli arg10 c1_i32_148
  let v151 : BitVec 32 := Scalar.addi c0_i32_149 v150
  let v221 : BitVec 32 := Scalar.addi c56_i32_184 v151
  let c64_i32 : BitVec 32 := 64#32
  ![1, v221.toNat, 64]
def k0_off117 (k0_t7 : Fin k0_t7_loop.trips) : Fin 3 → Nat :=
  let c1_i32_187 : BitVec 32 := 1#32
  let v227 : Index := Scalar.indexCast c1_i32_187
  let c2_i32_150 : BitVec 32 := 2#32
  let c0_i32_149 : BitVec 32 := 0#32
  let c0_i32_131 : BitVec 32 := 0#32
  let c1_i32_133 : BitVec 32 := 1#32
  let arg10 : BitVec 32 := Scf.iv c0_i32_131 c1_i32_133 k0_t7
  let c1_i32_148 : BitVec 32 := 1#32
  let v150 : BitVec 32 := Scalar.muli arg10 c1_i32_148
  let v151 : BitVec 32 := Scalar.addi c0_i32_149 v150
  let v152 : BitVec 32 := Scalar.muli c2_i32_150 v151
  let v228 : Index := Scalar.indexCast v152
  let c128 : Index := 128#32
  ![1, v228.toNat, 128]
def k0_off118 (k0_t7 : Fin k0_t7_loop.trips) : Fin 3 → Nat :=
  let c1_i32_191 : BitVec 32 := 1#32
  let v235 : Index := Scalar.indexCast c1_i32_191
  let c2_i32_150 : BitVec 32 := 2#32
  let c0_i32_149 : BitVec 32 := 0#32
  let c0_i32_131 : BitVec 32 := 0#32
  let c1_i32_133 : BitVec 32 := 1#32
  let arg10 : BitVec 32 := Scf.iv c0_i32_131 c1_i32_133 k0_t7
  let c1_i32_148 : BitVec 32 := 1#32
  let v150 : BitVec 32 := Scalar.muli arg10 c1_i32_148
  let v151 : BitVec 32 := Scalar.addi c0_i32_149 v150
  let v152 : BitVec 32 := Scalar.muli c2_i32_150 v151
  let v236 : Index := Scalar.indexCast v152
  let c144 : Index := 144#32
  ![1, v236.toNat, 144]
def k0_off119 (k0_t7 : Fin k0_t7_loop.trips) : Fin 3 → Nat :=
  let c1_i32_193 : BitVec 32 := 1#32
  let c56_i32_192 : BitVec 32 := 56#32
  let c0_i32_149 : BitVec 32 := 0#32
  let c0_i32_131 : BitVec 32 := 0#32
  let c1_i32_133 : BitVec 32 := 1#32
  let arg10 : BitVec 32 := Scf.iv c0_i32_131 c1_i32_133 k0_t7
  let c1_i32_148 : BitVec 32 := 1#32
  let v150 : BitVec 32 := Scalar.muli arg10 c1_i32_148
  let v151 : BitVec 32 := Scalar.addi c0_i32_149 v150
  let v238 : BitVec 32 := Scalar.addi c56_i32_192 v151
  let c80_i32 : BitVec 32 := 80#32
  ![1, v238.toNat, 80]
def k0_off120 (k0_t7 : Fin k0_t7_loop.trips) : Fin 3 → Nat :=
  let c1_i32_195 : BitVec 32 := 1#32
  let v244 : Index := Scalar.indexCast c1_i32_195
  let c2_i32_150 : BitVec 32 := 2#32
  let c0_i32_149 : BitVec 32 := 0#32
  let c0_i32_131 : BitVec 32 := 0#32
  let c1_i32_133 : BitVec 32 := 1#32
  let arg10 : BitVec 32 := Scf.iv c0_i32_131 c1_i32_133 k0_t7
  let c1_i32_148 : BitVec 32 := 1#32
  let v150 : BitVec 32 := Scalar.muli arg10 c1_i32_148
  let v151 : BitVec 32 := Scalar.addi c0_i32_149 v150
  let v152 : BitVec 32 := Scalar.muli c2_i32_150 v151
  let v245 : Index := Scalar.indexCast v152
  let c160 : Index := 160#32
  ![1, v245.toNat, 160]
def k0_off121 (k0_t7 : Fin k0_t7_loop.trips) : Fin 3 → Nat :=
  let c1_i32_199 : BitVec 32 := 1#32
  let v252 : Index := Scalar.indexCast c1_i32_199
  let c2_i32_150 : BitVec 32 := 2#32
  let c0_i32_149 : BitVec 32 := 0#32
  let c0_i32_131 : BitVec 32 := 0#32
  let c1_i32_133 : BitVec 32 := 1#32
  let arg10 : BitVec 32 := Scf.iv c0_i32_131 c1_i32_133 k0_t7
  let c1_i32_148 : BitVec 32 := 1#32
  let v150 : BitVec 32 := Scalar.muli arg10 c1_i32_148
  let v151 : BitVec 32 := Scalar.addi c0_i32_149 v150
  let v152 : BitVec 32 := Scalar.muli c2_i32_150 v151
  let v253 : Index := Scalar.indexCast v152
  let c176 : Index := 176#32
  ![1, v253.toNat, 176]
def k0_off122 (k0_t7 : Fin k0_t7_loop.trips) : Fin 3 → Nat :=
  let c1_i32_201 : BitVec 32 := 1#32
  let c56_i32_200 : BitVec 32 := 56#32
  let c0_i32_149 : BitVec 32 := 0#32
  let c0_i32_131 : BitVec 32 := 0#32
  let c1_i32_133 : BitVec 32 := 1#32
  let arg10 : BitVec 32 := Scf.iv c0_i32_131 c1_i32_133 k0_t7
  let c1_i32_148 : BitVec 32 := 1#32
  let v150 : BitVec 32 := Scalar.muli arg10 c1_i32_148
  let v151 : BitVec 32 := Scalar.addi c0_i32_149 v150
  let v255 : BitVec 32 := Scalar.addi c56_i32_200 v151
  let c96_i32 : BitVec 32 := 96#32
  ![1, v255.toNat, 96]

def k0_chk1 (v29 : IVec S16 32) : Prop :=
  (∀ a x, ((![v29] : Fin 1 → IVec S16 32) a x).toNat < S16.size a) ∧
  (∀ a x, ((![v29] : Fin 1 → IVec S16 32) a x).toNat < S16.size a) ∧
  (∀ a x, ((![v29] : Fin 1 → IVec S16 32) a x).toNat < S16.size a) ∧
  (∀ a x, ((![v29] : Fin 1 → IVec S16 32) a x).toNat < S16.size a) ∧
  (∀ a x, ((![v29] : Fin 1 → IVec S16 32) a x).toNat < S16.size a) ∧
  (∀ a x, ((![v29] : Fin 1 → IVec S16 32) a x).toNat < S16.size a) ∧
  (∀ a x, ((![v29] : Fin 1 → IVec S16 32) a x).toNat < S16.size a) ∧
  (∀ a x, ((![v29] : Fin 1 → IVec S16 32) a x).toNat < S16.size a) ∧
  (∀ a x, ((![v29] : Fin 1 → IVec S16 32) a x).toNat < S16.size a) ∧
  (∀ a x, ((![v29] : Fin 1 → IVec S16 32) a x).toNat < S16.size a) ∧
  (∀ a x, ((![v29] : Fin 1 → IVec S16 32) a x).toNat < S16.size a) ∧
  (∀ a x, ((![v29] : Fin 1 → IVec S16 32) a x).toNat < S16.size a) ∧
  (∀ a x, ((![v29] : Fin 1 → IVec S16 32) a x).toNat < S16.size a) ∧
  (∀ a x, ((![v29] : Fin 1 → IVec S16 32) a x).toNat < S16.size a) ∧
  (∀ a x, ((![v29] : Fin 1 → IVec S16 32) a x).toNat < S16.size a) ∧
  (∀ a x, ((![v29] : Fin 1 → IVec S16 32) a x).toNat < S16.size a) ∧
  (∀ a x, ((![v29] : Fin 1 → IVec S16 32) a x).toNat < S16.size a) ∧
  (∀ a x, ((![v29] : Fin 1 → IVec S16 32) a x).toNat < S16.size a) ∧
  (∀ a x, ((![v29] : Fin 1 → IVec S16 32) a x).toNat < S16.size a) ∧
  (∀ a x, ((![v29] : Fin 1 → IVec S16 32) a x).toNat < S16.size a) ∧
  (∀ a x, ((![v29] : Fin 1 → IVec S16 32) a x).toNat < S16.size a) ∧
  (∀ a x, ((![v29] : Fin 1 → IVec S16 32) a x).toNat < S16.size a) ∧
  (∀ a x, ((![v29] : Fin 1 → IVec S16 32) a x).toNat < S16.size a) ∧
  (∀ a x, ((![v29] : Fin 1 → IVec S16 32) a x).toNat < S16.size a) ∧
  (∀ a x, ((![v29] : Fin 1 → IVec S16 32) a x).toNat < S16.size a) ∧
  (∀ a x, ((![v29] : Fin 1 → IVec S16 32) a x).toNat < S16.size a) ∧
  (∀ a x, ((![v29] : Fin 1 → IVec S16 32) a x).toNat < S16.size a) ∧
  (∀ a x, ((![v29] : Fin 1 → IVec S16 32) a x).toNat < S16.size a)
theorem k0_idx1_inb : ∀ (v29 : IVec S16 32) (k0_hw1 : k0_chk1 v29), ∀ a x, ((![v29] : Fin 1 → IVec S16 32) a x).toNat < S16.size a := fun v29 k0_hw1 => k0_hw1.1
theorem k0_idx3_inb : ∀ (v29 : IVec S16 32) (k0_hw1 : k0_chk1 v29), ∀ a x, ((![v29] : Fin 1 → IVec S16 32) a x).toNat < S16.size a := fun v29 k0_hw1 => k0_hw1.2.1
theorem k0_idx5_inb : ∀ (v29 : IVec S16 32) (k0_hw1 : k0_chk1 v29), ∀ a x, ((![v29] : Fin 1 → IVec S16 32) a x).toNat < S16.size a := fun v29 k0_hw1 => k0_hw1.2.2.1
theorem k0_idx7_inb : ∀ (v29 : IVec S16 32) (k0_hw1 : k0_chk1 v29), ∀ a x, ((![v29] : Fin 1 → IVec S16 32) a x).toNat < S16.size a := fun v29 k0_hw1 => k0_hw1.2.2.2.1
theorem k0_idx9_inb : ∀ (v29 : IVec S16 32) (k0_hw1 : k0_chk1 v29), ∀ a x, ((![v29] : Fin 1 → IVec S16 32) a x).toNat < S16.size a := fun v29 k0_hw1 => k0_hw1.2.2.2.2.1
theorem k0_idx11_inb : ∀ (v29 : IVec S16 32) (k0_hw1 : k0_chk1 v29), ∀ a x, ((![v29] : Fin 1 → IVec S16 32) a x).toNat < S16.size a := fun v29 k0_hw1 => k0_hw1.2.2.2.2.2.1
theorem k0_idx13_inb : ∀ (v29 : IVec S16 32) (k0_hw1 : k0_chk1 v29), ∀ a x, ((![v29] : Fin 1 → IVec S16 32) a x).toNat < S16.size a := fun v29 k0_hw1 => k0_hw1.2.2.2.2.2.2.1
theorem k0_idx15_inb : ∀ (v29 : IVec S16 32) (k0_hw1 : k0_chk1 v29), ∀ a x, ((![v29] : Fin 1 → IVec S16 32) a x).toNat < S16.size a := fun v29 k0_hw1 => k0_hw1.2.2.2.2.2.2.2.1
theorem k0_idx17_inb : ∀ (v29 : IVec S16 32) (k0_hw1 : k0_chk1 v29), ∀ a x, ((![v29] : Fin 1 → IVec S16 32) a x).toNat < S16.size a := fun v29 k0_hw1 => k0_hw1.2.2.2.2.2.2.2.2.1
theorem k0_idx19_inb : ∀ (v29 : IVec S16 32) (k0_hw1 : k0_chk1 v29), ∀ a x, ((![v29] : Fin 1 → IVec S16 32) a x).toNat < S16.size a := fun v29 k0_hw1 => k0_hw1.2.2.2.2.2.2.2.2.2.1
theorem k0_idx21_inb : ∀ (v29 : IVec S16 32) (k0_hw1 : k0_chk1 v29), ∀ a x, ((![v29] : Fin 1 → IVec S16 32) a x).toNat < S16.size a := fun v29 k0_hw1 => k0_hw1.2.2.2.2.2.2.2.2.2.2.1
theorem k0_idx23_inb : ∀ (v29 : IVec S16 32) (k0_hw1 : k0_chk1 v29), ∀ a x, ((![v29] : Fin 1 → IVec S16 32) a x).toNat < S16.size a := fun v29 k0_hw1 => k0_hw1.2.2.2.2.2.2.2.2.2.2.2.1
theorem k0_idx25_inb : ∀ (v29 : IVec S16 32) (k0_hw1 : k0_chk1 v29), ∀ a x, ((![v29] : Fin 1 → IVec S16 32) a x).toNat < S16.size a := fun v29 k0_hw1 => k0_hw1.2.2.2.2.2.2.2.2.2.2.2.2.1
theorem k0_idx27_inb : ∀ (v29 : IVec S16 32) (k0_hw1 : k0_chk1 v29), ∀ a x, ((![v29] : Fin 1 → IVec S16 32) a x).toNat < S16.size a := fun v29 k0_hw1 => k0_hw1.2.2.2.2.2.2.2.2.2.2.2.2.2.1
theorem k0_idx29_inb : ∀ (v29 : IVec S16 32) (k0_hw1 : k0_chk1 v29), ∀ a x, ((![v29] : Fin 1 → IVec S16 32) a x).toNat < S16.size a := fun v29 k0_hw1 => k0_hw1.2.2.2.2.2.2.2.2.2.2.2.2.2.2.1
theorem k0_idx31_inb : ∀ (v29 : IVec S16 32) (k0_hw1 : k0_chk1 v29), ∀ a x, ((![v29] : Fin 1 → IVec S16 32) a x).toNat < S16.size a := fun v29 k0_hw1 => k0_hw1.2.2.2.2.2.2.2.2.2.2.2.2.2.2.2.1
theorem k0_idx33_inb : ∀ (v29 : IVec S16 32) (k0_hw1 : k0_chk1 v29), ∀ a x, ((![v29] : Fin 1 → IVec S16 32) a x).toNat < S16.size a := fun v29 k0_hw1 => k0_hw1.2.2.2.2.2.2.2.2.2.2.2.2.2.2.2.2.1
theorem k0_idx35_inb : ∀ (v29 : IVec S16 32) (k0_hw1 : k0_chk1 v29), ∀ a x, ((![v29] : Fin 1 → IVec S16 32) a x).toNat < S16.size a := fun v29 k0_hw1 => k0_hw1.2.2.2.2.2.2.2.2.2.2.2.2.2.2.2.2.2.1
theorem k0_idx37_inb : ∀ (v29 : IVec S16 32) (k0_hw1 : k0_chk1 v29), ∀ a x, ((![v29] : Fin 1 → IVec S16 32) a x).toNat < S16.size a := fun v29 k0_hw1 => k0_hw1.2.2.2.2.2.2.2.2.2.2.2.2.2.2.2.2.2.2.1
theorem k0_idx39_inb : ∀ (v29 : IVec S16 32) (k0_hw1 : k0_chk1 v29), ∀ a x, ((![v29] : Fin 1 → IVec S16 32) a x).toNat < S16.size a := fun v29 k0_hw1 => k0_hw1.2.2.2.2.2.2.2.2.2.2.2.2.2.2.2.2.2.2.2.1
theorem k0_idx41_inb : ∀ (v29 : IVec S16 32) (k0_hw1 : k0_chk1 v29), ∀ a x, ((![v29] : Fin 1 → IVec S16 32) a x).toNat < S16.size a := fun v29 k0_hw1 => k0_hw1.2.2.2.2.2.2.2.2.2.2.2.2.2.2.2.2.2.2.2.2.1
theorem k0_idx43_inb : ∀ (v29 : IVec S16 32) (k0_hw1 : k0_chk1 v29), ∀ a x, ((![v29] : Fin 1 → IVec S16 32) a x).toNat < S16.size a := fun v29 k0_hw1 => k0_hw1.2.2.2.2.2.2.2.2.2.2.2.2.2.2.2.2.2.2.2.2.2.1
theorem k0_idx45_inb : ∀ (v29 : IVec S16 32) (k0_hw1 : k0_chk1 v29), ∀ a x, ((![v29] : Fin 1 → IVec S16 32) a x).toNat < S16.size a := fun v29 k0_hw1 => k0_hw1.2.2.2.2.2.2.2.2.2.2.2.2.2.2.2.2.2.2.2.2.2.2.1
theorem k0_idx47_inb : ∀ (v29 : IVec S16 32) (k0_hw1 : k0_chk1 v29), ∀ a x, ((![v29] : Fin 1 → IVec S16 32) a x).toNat < S16.size a := fun v29 k0_hw1 => k0_hw1.2.2.2.2.2.2.2.2.2.2.2.2.2.2.2.2.2.2.2.2.2.2.2.1
theorem k0_idx49_inb : ∀ (v29 : IVec S16 32) (k0_hw1 : k0_chk1 v29), ∀ a x, ((![v29] : Fin 1 → IVec S16 32) a x).toNat < S16.size a := fun v29 k0_hw1 => k0_hw1.2.2.2.2.2.2.2.2.2.2.2.2.2.2.2.2.2.2.2.2.2.2.2.2.1
theorem k0_idx51_inb : ∀ (v29 : IVec S16 32) (k0_hw1 : k0_chk1 v29), ∀ a x, ((![v29] : Fin 1 → IVec S16 32) a x).toNat < S16.size a := fun v29 k0_hw1 => k0_hw1.2.2.2.2.2.2.2.2.2.2.2.2.2.2.2.2.2.2.2.2.2.2.2.2.2.1
theorem k0_idx53_inb : ∀ (v29 : IVec S16 32) (k0_hw1 : k0_chk1 v29), ∀ a x, ((![v29] : Fin 1 → IVec S16 32) a x).toNat < S16.size a := fun v29 k0_hw1 => k0_hw1.2.2.2.2.2.2.2.2.2.2.2.2.2.2.2.2.2.2.2.2.2.2.2.2.2.2.1
theorem k0_idx55_inb : ∀ (v29 : IVec S16 32) (k0_hw1 : k0_chk1 v29), ∀ a x, ((![v29] : Fin 1 → IVec S16 32) a x).toNat < S16.size a := fun v29 k0_hw1 => k0_hw1.2.2.2.2.2.2.2.2.2.2.2.2.2.2.2.2.2.2.2.2.2.2.2.2.2.2.2
def k0_off123 (k0_t7 : Fin k0_t7_loop.trips) : Fin 3 → Nat :=
  let c1_i32_203 : BitVec 32 := 1#32
  let v261 : Index := Scalar.indexCast c1_i32_203
  let c2_i32_150 : BitVec 32 := 2#32
  let c0_i32_149 : BitVec 32 := 0#32
  let c0_i32_131 : BitVec 32 := 0#32
  let c1_i32_133 : BitVec 32 := 1#32
  let arg10 : BitVec 32 := Scf.iv c0_i32_131 c1_i32_133 k0_t7
  let c1_i32_148 : BitVec 32 := 1#32
  let v150 : BitVec 32 := Scalar.muli arg10 c1_i32_148
  let v151 : BitVec 32 := Scalar.addi c0_i32_149 v150
  let v152 : BitVec 32 := Scalar.muli c2_i32_150 v151
  let v262 : Index := Scalar.indexCast v152
  let c192 : Index := 192#32
  ![1, v262.toNat, 192]

def k0_chk2 (v31 : IVec S16 32) : Prop :=
  (∀ a x, ((![v31] : Fin 1 → IVec S16 32) a x).toNat < S16.size a) ∧
  (∀ a x, ((![v31] : Fin 1 → IVec S16 32) a x).toNat < S16.size a) ∧
  (∀ a x, ((![v31] : Fin 1 → IVec S16 32) a x).toNat < S16.size a) ∧
  (∀ a x, ((![v31] : Fin 1 → IVec S16 32) a x).toNat < S16.size a) ∧
  (∀ a x, ((![v31] : Fin 1 → IVec S16 32) a x).toNat < S16.size a) ∧
  (∀ a x, ((![v31] : Fin 1 → IVec S16 32) a x).toNat < S16.size a) ∧
  (∀ a x, ((![v31] : Fin 1 → IVec S16 32) a x).toNat < S16.size a) ∧
  (∀ a x, ((![v31] : Fin 1 → IVec S16 32) a x).toNat < S16.size a) ∧
  (∀ a x, ((![v31] : Fin 1 → IVec S16 32) a x).toNat < S16.size a) ∧
  (∀ a x, ((![v31] : Fin 1 → IVec S16 32) a x).toNat < S16.size a) ∧
  (∀ a x, ((![v31] : Fin 1 → IVec S16 32) a x).toNat < S16.size a) ∧
  (∀ a x, ((![v31] : Fin 1 → IVec S16 32) a x).toNat < S16.size a) ∧
  (∀ a x, ((![v31] : Fin 1 → IVec S16 32) a x).toNat < S16.size a) ∧
  (∀ a x, ((![v31] : Fin 1 → IVec S16 32) a x).toNat < S16.size a) ∧
  (∀ a x, ((![v31] : Fin 1 → IVec S16 32) a x).toNat < S16.size a) ∧
  (∀ a x, ((![v31] : Fin 1 → IVec S16 32) a x).toNat < S16.size a) ∧
  (∀ a x, ((![v31] : Fin 1 → IVec S16 32) a x).toNat < S16.size a) ∧
  (∀ a x, ((![v31] : Fin 1 → IVec S16 32) a x).toNat < S16.size a) ∧
  (∀ a x, ((![v31] : Fin 1 → IVec S16 32) a x).toNat < S16.size a) ∧
  (∀ a x, ((![v31] : Fin 1 → IVec S16 32) a x).toNat < S16.size a) ∧
  (∀ a x, ((![v31] : Fin 1 → IVec S16 32) a x).toNat < S16.size a) ∧
  (∀ a x, ((![v31] : Fin 1 → IVec S16 32) a x).toNat < S16.size a) ∧
  (∀ a x, ((![v31] : Fin 1 → IVec S16 32) a x).toNat < S16.size a) ∧
  (∀ a x, ((![v31] : Fin 1 → IVec S16 32) a x).toNat < S16.size a) ∧
  (∀ a x, ((![v31] : Fin 1 → IVec S16 32) a x).toNat < S16.size a) ∧
  (∀ a x, ((![v31] : Fin 1 → IVec S16 32) a x).toNat < S16.size a) ∧
  (∀ a x, ((![v31] : Fin 1 → IVec S16 32) a x).toNat < S16.size a) ∧
  (∀ a x, ((![v31] : Fin 1 → IVec S16 32) a x).toNat < S16.size a)
theorem k0_idx2_inb : ∀ (v31 : IVec S16 32) (k0_hw2 : k0_chk2 v31), ∀ a x, ((![v31] : Fin 1 → IVec S16 32) a x).toNat < S16.size a := fun v31 k0_hw2 => k0_hw2.1
theorem k0_idx4_inb : ∀ (v31 : IVec S16 32) (k0_hw2 : k0_chk2 v31), ∀ a x, ((![v31] : Fin 1 → IVec S16 32) a x).toNat < S16.size a := fun v31 k0_hw2 => k0_hw2.2.1
theorem k0_idx6_inb : ∀ (v31 : IVec S16 32) (k0_hw2 : k0_chk2 v31), ∀ a x, ((![v31] : Fin 1 → IVec S16 32) a x).toNat < S16.size a := fun v31 k0_hw2 => k0_hw2.2.2.1
theorem k0_idx8_inb : ∀ (v31 : IVec S16 32) (k0_hw2 : k0_chk2 v31), ∀ a x, ((![v31] : Fin 1 → IVec S16 32) a x).toNat < S16.size a := fun v31 k0_hw2 => k0_hw2.2.2.2.1
theorem k0_idx10_inb : ∀ (v31 : IVec S16 32) (k0_hw2 : k0_chk2 v31), ∀ a x, ((![v31] : Fin 1 → IVec S16 32) a x).toNat < S16.size a := fun v31 k0_hw2 => k0_hw2.2.2.2.2.1
theorem k0_idx12_inb : ∀ (v31 : IVec S16 32) (k0_hw2 : k0_chk2 v31), ∀ a x, ((![v31] : Fin 1 → IVec S16 32) a x).toNat < S16.size a := fun v31 k0_hw2 => k0_hw2.2.2.2.2.2.1
theorem k0_idx14_inb : ∀ (v31 : IVec S16 32) (k0_hw2 : k0_chk2 v31), ∀ a x, ((![v31] : Fin 1 → IVec S16 32) a x).toNat < S16.size a := fun v31 k0_hw2 => k0_hw2.2.2.2.2.2.2.1
theorem k0_idx16_inb : ∀ (v31 : IVec S16 32) (k0_hw2 : k0_chk2 v31), ∀ a x, ((![v31] : Fin 1 → IVec S16 32) a x).toNat < S16.size a := fun v31 k0_hw2 => k0_hw2.2.2.2.2.2.2.2.1
theorem k0_idx18_inb : ∀ (v31 : IVec S16 32) (k0_hw2 : k0_chk2 v31), ∀ a x, ((![v31] : Fin 1 → IVec S16 32) a x).toNat < S16.size a := fun v31 k0_hw2 => k0_hw2.2.2.2.2.2.2.2.2.1
theorem k0_idx20_inb : ∀ (v31 : IVec S16 32) (k0_hw2 : k0_chk2 v31), ∀ a x, ((![v31] : Fin 1 → IVec S16 32) a x).toNat < S16.size a := fun v31 k0_hw2 => k0_hw2.2.2.2.2.2.2.2.2.2.1
theorem k0_idx22_inb : ∀ (v31 : IVec S16 32) (k0_hw2 : k0_chk2 v31), ∀ a x, ((![v31] : Fin 1 → IVec S16 32) a x).toNat < S16.size a := fun v31 k0_hw2 => k0_hw2.2.2.2.2.2.2.2.2.2.2.1
theorem k0_idx24_inb : ∀ (v31 : IVec S16 32) (k0_hw2 : k0_chk2 v31), ∀ a x, ((![v31] : Fin 1 → IVec S16 32) a x).toNat < S16.size a := fun v31 k0_hw2 => k0_hw2.2.2.2.2.2.2.2.2.2.2.2.1
theorem k0_idx26_inb : ∀ (v31 : IVec S16 32) (k0_hw2 : k0_chk2 v31), ∀ a x, ((![v31] : Fin 1 → IVec S16 32) a x).toNat < S16.size a := fun v31 k0_hw2 => k0_hw2.2.2.2.2.2.2.2.2.2.2.2.2.1
theorem k0_idx28_inb : ∀ (v31 : IVec S16 32) (k0_hw2 : k0_chk2 v31), ∀ a x, ((![v31] : Fin 1 → IVec S16 32) a x).toNat < S16.size a := fun v31 k0_hw2 => k0_hw2.2.2.2.2.2.2.2.2.2.2.2.2.2.1
theorem k0_idx30_inb : ∀ (v31 : IVec S16 32) (k0_hw2 : k0_chk2 v31), ∀ a x, ((![v31] : Fin 1 → IVec S16 32) a x).toNat < S16.size a := fun v31 k0_hw2 => k0_hw2.2.2.2.2.2.2.2.2.2.2.2.2.2.2.1
theorem k0_idx32_inb : ∀ (v31 : IVec S16 32) (k0_hw2 : k0_chk2 v31), ∀ a x, ((![v31] : Fin 1 → IVec S16 32) a x).toNat < S16.size a := fun v31 k0_hw2 => k0_hw2.2.2.2.2.2.2.2.2.2.2.2.2.2.2.2.1
theorem k0_idx34_inb : ∀ (v31 : IVec S16 32) (k0_hw2 : k0_chk2 v31), ∀ a x, ((![v31] : Fin 1 → IVec S16 32) a x).toNat < S16.size a := fun v31 k0_hw2 => k0_hw2.2.2.2.2.2.2.2.2.2.2.2.2.2.2.2.2.1
theorem k0_idx36_inb : ∀ (v31 : IVec S16 32) (k0_hw2 : k0_chk2 v31), ∀ a x, ((![v31] : Fin 1 → IVec S16 32) a x).toNat < S16.size a := fun v31 k0_hw2 => k0_hw2.2.2.2.2.2.2.2.2.2.2.2.2.2.2.2.2.2.1
theorem k0_idx38_inb : ∀ (v31 : IVec S16 32) (k0_hw2 : k0_chk2 v31), ∀ a x, ((![v31] : Fin 1 → IVec S16 32) a x).toNat < S16.size a := fun v31 k0_hw2 => k0_hw2.2.2.2.2.2.2.2.2.2.2.2.2.2.2.2.2.2.2.1
theorem k0_idx40_inb : ∀ (v31 : IVec S16 32) (k0_hw2 : k0_chk2 v31), ∀ a x, ((![v31] : Fin 1 → IVec S16 32) a x).toNat < S16.size a := fun v31 k0_hw2 => k0_hw2.2.2.2.2.2.2.2.2.2.2.2.2.2.2.2.2.2.2.2.1
theorem k0_idx42_inb : ∀ (v31 : IVec S16 32) (k0_hw2 : k0_chk2 v31), ∀ a x, ((![v31] : Fin 1 → IVec S16 32) a x).toNat < S16.size a := fun v31 k0_hw2 => k0_hw2.2.2.2.2.2.2.2.2.2.2.2.2.2.2.2.2.2.2.2.2.1
theorem k0_idx44_inb : ∀ (v31 : IVec S16 32) (k0_hw2 : k0_chk2 v31), ∀ a x, ((![v31] : Fin 1 → IVec S16 32) a x).toNat < S16.size a := fun v31 k0_hw2 => k0_hw2.2.2.2.2.2.2.2.2.2.2.2.2.2.2.2.2.2.2.2.2.2.1
theorem k0_idx46_inb : ∀ (v31 : IVec S16 32) (k0_hw2 : k0_chk2 v31), ∀ a x, ((![v31] : Fin 1 → IVec S16 32) a x).toNat < S16.size a := fun v31 k0_hw2 => k0_hw2.2.2.2.2.2.2.2.2.2.2.2.2.2.2.2.2.2.2.2.2.2.2.1
theorem k0_idx48_inb : ∀ (v31 : IVec S16 32) (k0_hw2 : k0_chk2 v31), ∀ a x, ((![v31] : Fin 1 → IVec S16 32) a x).toNat < S16.size a := fun v31 k0_hw2 => k0_hw2.2.2.2.2.2.2.2.2.2.2.2.2.2.2.2.2.2.2.2.2.2.2.2.1
theorem k0_idx50_inb : ∀ (v31 : IVec S16 32) (k0_hw2 : k0_chk2 v31), ∀ a x, ((![v31] : Fin 1 → IVec S16 32) a x).toNat < S16.size a := fun v31 k0_hw2 => k0_hw2.2.2.2.2.2.2.2.2.2.2.2.2.2.2.2.2.2.2.2.2.2.2.2.2.1
theorem k0_idx52_inb : ∀ (v31 : IVec S16 32) (k0_hw2 : k0_chk2 v31), ∀ a x, ((![v31] : Fin 1 → IVec S16 32) a x).toNat < S16.size a := fun v31 k0_hw2 => k0_hw2.2.2.2.2.2.2.2.2.2.2.2.2.2.2.2.2.2.2.2.2.2.2.2.2.2.1
theorem k0_idx54_inb : ∀ (v31 : IVec S16 32) (k0_hw2 : k0_chk2 v31), ∀ a x, ((![v31] : Fin 1 → IVec S16 32) a x).toNat < S16.size a := fun v31 k0_hw2 => k0_hw2.2.2.2.2.2.2.2.2.2.2.2.2.2.2.2.2.2.2.2.2.2.2.2.2.2.2.1
theorem k0_idx56_inb : ∀ (v31 : IVec S16 32) (k0_hw2 : k0_chk2 v31), ∀ a x, ((![v31] : Fin 1 → IVec S16 32) a x).toNat < S16.size a := fun v31 k0_hw2 => k0_hw2.2.2.2.2.2.2.2.2.2.2.2.2.2.2.2.2.2.2.2.2.2.2.2.2.2.2.2
def k0_off124 (k0_t7 : Fin k0_t7_loop.trips) : Fin 3 → Nat :=
  let c1_i32_207 : BitVec 32 := 1#32
  let v269 : Index := Scalar.indexCast c1_i32_207
  let c2_i32_150 : BitVec 32 := 2#32
  let c0_i32_149 : BitVec 32 := 0#32
  let c0_i32_131 : BitVec 32 := 0#32
  let c1_i32_133 : BitVec 32 := 1#32
  let arg10 : BitVec 32 := Scf.iv c0_i32_131 c1_i32_133 k0_t7
  let c1_i32_148 : BitVec 32 := 1#32
  let v150 : BitVec 32 := Scalar.muli arg10 c1_i32_148
  let v151 : BitVec 32 := Scalar.addi c0_i32_149 v150
  let v152 : BitVec 32 := Scalar.muli c2_i32_150 v151
  let v270 : Index := Scalar.indexCast v152
  let c208 : Index := 208#32
  ![1, v270.toNat, 208]
def k0_cond6 (k0_t3 : Fin k0_t3_loop.trips) : BitVec 1 :=
  let c2_i32_101 : BitVec 32 := 2#32
  let c0_i32_30 : BitVec 32 := 0#32
  let c1_i32_31 : BitVec 32 := 1#32
  let arg8 : BitVec 32 := Scf.iv c0_i32_30 c1_i32_31 k0_t3
  let v106 : BitVec 32 := Scalar.muli c2_i32_101 arg8
  let c1_i32_102 : BitVec 32 := 1#32
  let v107 : BitVec 32 := Scalar.addi v106 c1_i32_102
  let c22_i32_145 : BitVec 32 := 22#32
  let v147 : BitVec 1 := Scalar.cmpi .slt v107 c22_i32_145
  let v148 : BitVec 32 := Scalar.extui v147
  let c0_i32_146 : BitVec 32 := 0#32
  let v149 : BitVec 1 := Scalar.cmpi .ne v148 c0_i32_146
  v149

def k0_off125 (i : grid0.Coords) (k0_t3 : Fin k0_t3_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c24_i32 : BitVec 32 := 24#32
  let v2 : BitVec 32 := Scalar.muli v1 c24_i32
  let c2_i32_101 : BitVec 32 := 2#32
  let c0_i32_30 : BitVec 32 := 0#32
  let c1_i32_31 : BitVec 32 := 1#32
  let arg8 : BitVec 32 := Scf.iv c0_i32_30 c1_i32_31 k0_t3
  let v106 : BitVec 32 := Scalar.muli c2_i32_101 arg8
  let c1_i32_102 : BitVec 32 := 1#32
  let v107 : BitVec 32 := Scalar.addi v106 c1_i32_102
  let v108 : BitVec 32 := Scalar.addi v2 v107
  let c2_i32_148 : BitVec 32 := 2#32
  let v150 : BitVec 32 := Scalar.addi v108 c2_i32_148
  let c0_i32_153 : BitVec 32 := 0#32
  let c0_i32_154 : BitVec 32 := 0#32
  ![v150.toNat, 0, 0]
def k0_off126 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c24_i32 : BitVec 32 := 24#32
  let v2 : BitVec 32 := Scalar.muli v1 c24_i32
  let c24_i32_33 : BitVec 32 := 24#32
  let v38 : BitVec 32 := Scalar.addi v2 c24_i32_33
  let c1_i32_34 : BitVec 32 := 1#32
  let v39 : BitVec 32 := Scalar.subi v38 c1_i32_34
  let c0_i32_39 : BitVec 32 := 0#32
  let c0_i32_40 : BitVec 32 := 0#32
  ![v39.toNat, 0, 0]
def k0_off127 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c24_i32 : BitVec 32 := 24#32
  let v2 : BitVec 32 := Scalar.muli v1 c24_i32
  let c24_i32_45 : BitVec 32 := 24#32
  let v50 : BitVec 32 := Scalar.addi v2 c24_i32_45
  let c1_i32_46 : BitVec 32 := 1#32
  let v51 : BitVec 32 := Scalar.subi v50 c1_i32_46
  let c112_i32 : BitVec 32 := 112#32
  let c0_i32_51 : BitVec 32 := 0#32
  ![v51.toNat, 112, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8x96x112x112 : Shape := ⟨4, ![8, 96, 112, 112]⟩
abbrev S112x112 : Shape := ⟨2, ![112, 112]⟩
abbrev S12544 : Shape := ⟨1, ![12544]⟩
abbrev S_ : Shape := ⟨0, ![]⟩
abbrev S8x96x50176 : Shape := ⟨3, ![8, 96, 50176]⟩
abbrev S8x96x12544 : Shape := ⟨3, ![8, 96, 12544]⟩
abbrev S12544x1 : Shape := ⟨2, ![12544, 1]⟩
abbrev S8x96x224x224 : Shape := ⟨4, ![8, 96, 224, 224]⟩

abbrev nBuf : Space → Nat
  | .hbm => 16
  | .vmem => 0
  | .smem => 0
  | _ => 0

abbrev bufTy : (tb : Table) → Fin (tcTables nBuf tb) → BufTy
  | .hbm, ⟨0, _⟩ => ⟨S8x96x112x112, .f32⟩
  | .hbm, ⟨1, _⟩ => ⟨S112x112, .i32⟩
  | .hbm, ⟨2, _⟩ => ⟨S12544, .i32⟩
  | .hbm, ⟨3, _⟩ => ⟨S_, .f32⟩
  | .hbm, ⟨4, _⟩ => ⟨S8x96x50176, .f32⟩
  | .hbm, ⟨5, _⟩ => ⟨S8x96x12544, .f32⟩
  | .hbm, ⟨6, _⟩ => ⟨S_, .i32⟩
  | .hbm, ⟨7, _⟩ => ⟨S12544, .i32⟩
  | .hbm, ⟨8, _⟩ => ⟨S12544, .i1⟩
  | .hbm, ⟨9, _⟩ => ⟨S_, .i32⟩
  | .hbm, ⟨10, _⟩ => ⟨S12544, .i32⟩
  | .hbm, ⟨11, _⟩ => ⟨S12544, .i32⟩
  | .hbm, ⟨12, _⟩ => ⟨S12544, .i32⟩
  | .hbm, ⟨13, _⟩ => ⟨S12544x1, .i32⟩
  | .hbm, ⟨14, _⟩ => ⟨S8x96x50176, .f32⟩
  | .hbm, ⟨15, _⟩ => ⟨S8x96x224x224, .f32⟩
  | _, _ => ⟨S8x96x112x112, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Proof.Setup.lean ====
/-
  The kernel's program as the launch theorem sees it, the resource algebra its proof runs in, and the kernel's memrefs.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import Idealize.ShloMosaic.Lib.ValueIdxCoords
public import proofs.«01_k».proof.Proof.Gen.KernelIdeal
public import proofs.«01_k».proof.Proof.Gen.KernelIdeal.Skeleton

@[expose] public section

noncomputable section

namespace Cert.Proof.Unpool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

/-- The machine's algebra this proof runs in. -/
abbrev MM (F : FTy → Type) : Type := MT nD τ sig (HIx 1) (Elt F) ℕ UU ℕ

/-- The handshakes' rounds, the left factor. -/
abbrev EH : Emb UH (MM F) := embL

/-- The transfers' counters, the right factor. -/
abbrev EC : UEmb Counters (MM F) := countersEmb

/-! ## The kernel's memrefs and threads -/

/-- The input images, the output images, the staged input images (two slots), the staged output halves (two slots). -/
abbrev mX : Memref sig .scVector .hbm S768x112x112 .f32 := Memref.whole main_v0_scv
abbrev mO : Memref sig .scVector .hbm S768x224x224 .f32 := Memref.whole main_v1_scv
abbrev mI : Memref sig .scVector .vmem S2x112x112 .f32 := Memref.whole cc0_scratch0
abbrev mS : Memref sig .scVector .vmem S2x112x224 .f32 := Memref.whole cc0_scratch1

/-- The thread of the tile at grid coordinates `i`. -/
abbrev thr (d : Dev nD) (i : grid0.Coords) : Thread nD τ := V d ((i 0).castLE hcore0) ((i 1).castLE hsub0)

/-- The programs of the tile at `i`. -/
abbrev TileProg (F : FTy → Type) (i : grid0.Coords) (A : Type) : Type 1 :=
  Prog (TpuEff nD τ sig (Elt F) Λ₀ (.scVector ((i 0).castLE hcore0) ((i 1).castLE hsub0))) A

end Cert.Proof.Unpool
-- ==== Proof.Val.lean ====
/-
  The values the kernel moves, by coordinates: what a staged half must hold at each point of its filling, and what one
  sixteen-lane store does to it.
-/
module

public import proofs.«01_k».proof.Proof.Setup

@[expose] public section

noncomputable section

namespace Cert.Proof.Unpool

open Cert.KernelIdeal Cert.KernelIdeal.Gen
open Idealize.ShloMosaic Idealize.SL.Sem

variable {F : FTy → Type} [FloatOps F]

/-- The float zero the kernel writes. -/
def z0 : Elt F .f32 := (Scalar.ofBits .f32 0x0#32 : F .f32)

/-- `X` read at natural coordinates (the zero outside the array). -/
def at3 (X : S768x112x112.Idx → Elt F .f32) (a b c : ℕ) : Elt F .f32 :=
  if h : a < 768 ∧ b < 112 ∧ c < 112 then X (ValueIdx.ix3 ⟨a, h.1⟩ ⟨b, h.2.1⟩ ⟨c, h.2.2⟩) else z0

theorem at3_eq (X : S768x112x112.Idx → Elt F .f32) (y : S768x112x112.Idx) :
    at3 X (y 0).val (y 1).val (y 2).val = X y := by
  unfold at3
  rw [dif_pos ⟨(y 0).isLt, (y 1).isLt, (y 2).isLt⟩]
  exact congrArg X (ValueIdx.eq_ix3 y).symm

/-- The unpooled value of image `n` at row `r`, column `c`. -/
def want (X : S768x112x112.Idx → Elt F .f32) (n r c : ℕ) : Elt F .f32 :=
  if r % 2 = 0 ∧ c % 2 = 0 then at3 X n (r / 2) (c / 2) else z0

/-- The unpooled images as an array. -/
def unp (X : S768x112x112.Idx → Elt F .f32) : S768x224x224.Idx → Elt F .f32 :=
  fun y => want X (y 0).val (y 1).val (y 2).val

/-- Slot `p` of the staged input holds image `n`. -/
def InHolds (X : S768x112x112.Idx → Elt F .f32) (p n : ℕ) (f : S2x112x112.Idx → Elt F .f32) : Prop :=
  ∀ y : S2x112x112.Idx, (y 0).val = p → f y = at3 X n (y 1).val (y 2).val

/-- In slot `b` of the staged output the odd rows before row `2r+1`, and the first `n` columns of that row, are zero. -/
def ZeroDone (b r n : ℕ) (f : S2x112x224.Idx → Elt F .f32) : Prop :=
  ∀ y : S2x112x224.Idx, (y 0).val = b → (y 1).val % 2 = 1 → ((y 1).val / 2 < r ∨ (y 1).val / 2 = r ∧ (y 2).val < n) → f y = z0

/-- In slot `b` of the staged output every odd row is zero, and the even rows before row `2r`, with the first `n` columns
    of that row, hold half `b` of image `n0`'s unpooled rows. -/
def RowsDone (X : S768x112x112.Idx → Elt F .f32) (n0 b r n : ℕ) (f : S2x112x224.Idx → Elt F .f32) : Prop :=
  ZeroDone b 56 0 f ∧
  ∀ y : S2x112x224.Idx, (y 0).val = b → (y 1).val % 2 = 0 → ((y 1).val / 2 < r ∨ (y 1).val / 2 = r ∧ (y 2).val < n) →
    f y = want X n0 (b * 112 + (y 1).val) (y 2).val

/-- Storing sixteen lanes at row `ρ`, column `c` of slot `b` replaces exactly those lanes. -/
theorem store16 {off : Fin 3 → Nat} {b ρ c : ℕ} (hoff : off = ![b, ρ, c])
    (hin : ∀ a, off a + S1x1x16.size a ≤ S2x112x224.size a)
    (f : S2x112x224.Idx → Elt F .f32) (w : S1x1x16.Idx → Elt F .f32) (y : S2x112x224.Idx) :
    (mS.access (Rect.unit (s := S2x112x224) off S1x1x16.size hin)).write (Elt F) f w Finset.univ y
      = if h : (y 0).val = b ∧ (y 1).val = ρ ∧ c ≤ (y 2).val ∧ (y 2).val < c + 16
        then w (ValueIdx.ix3 0 0 ⟨(y 2).val - c, by omega⟩) else f y := by
  subst hoff
  split
  · next h =>
    obtain ⟨h0, h1, h2, h3⟩ := h
    have e : (mS.access (Rect.unit (s := S2x112x224) ![b, ρ, c] S1x1x16.size hin)).emb (ValueIdx.ix3 0 0 ⟨(y 2).val - c, by omega⟩) = y := by
      funext a
      apply Fin.ext
      fin_cases a
      · show b + 1 * 0 = _; simpa using h0.symm
      · show ρ + 1 * 0 = _; simpa using h1.symm
      · show c + 1 * ((y 2).val - c) = (y 2).val; omega
    conv_lhs => rw [← e]
    exact View.write_emb_of_mem _ _ (Finset.mem_univ _)
  · next h =>
    apply View.write_of_not_mem
    intro hmem
    obtain ⟨x, -, rfl⟩ := Finset.mem_map.mp hmem
    have x0 : (x 0).val < 1 := (x 0).isLt
    have x1 : (x 1).val < 1 := (x 1).isLt
    have x2 : (x 2).val < 16 := (x 2).isLt
    refine h ⟨?_, ?_, ?_, ?_⟩
    · show b + 1 * (x 0).val = b; omega
    · show ρ + 1 * (x 1).val = ρ; omega
    · show c ≤ c + 1 * (x 2).val; omega
    · show c + 1 * (x 2).val < c + 16; omega

/-- Lane `l` of a sixteen-lane vector laid out as one row of one row is lane `l`. -/
theorem cast16_at {α : EltTy} (w : Vec F S16 α) (l : Fin 16) :
    shapeCast S1x1x16 w shapeCasts_S16_S1x1x16 (ValueIdx.ix3 0 0 l) = w (ValueIdx.ix1 l) := by
  unfold shapeCast
  congr 1
  apply Shape.reshapeEquiv_eq_of_rowMajor
  revert l
  decide +kernel

/-- The zero vector's lanes are the zero. -/
theorem pay57_at (x : S16.Idx) : k0_pay57 (F := F) x = z0 := rfl

/-- The mask holds on the even lanes. -/
theorem pay60_at (x : S16.Idx) : k0_pay60 x = if (x 0).val % 2 = 0 then 1#1 else 0#1 := by
  revert x; decide +kernel

/-- The low half's lane indices: `l / 2`. -/
theorem pay58_at (x : S16.Idx) : (k0_pay58 x).toNat = (x 0).val / 2 := by
  revert x; decide +kernel

/-- The high half's lane indices: `l / 2 + 8`. -/
theorem pay59_at (x : S16.Idx) : (k0_pay59 k0_pay58 x).toNat = (x 0).val / 2 + 8 := by
  revert x; decide +kernel

/-- The low half's indices name lanes of a sixteen-lane row. -/
theorem chk1 : k0_chk1 k0_pay58 := by
  have h : ∀ a x, ((![k0_pay58] : Fin 1 → IVec S16 32) a x).toNat < S16.size a := by
    intro a x
    fin_cases a
    show (k0_pay58 x).toNat < 16
    have := (x 0).isLt
    rw [pay58_at]; change (x 0).val < 16 at this; omega
  unfold k0_chk1
  simp only [and_self]
  exact h

/-- So do the high half's. -/
theorem chk2 : k0_chk2 (k0_pay59 k0_pay58) := by
  have h : ∀ a x, ((![k0_pay59 k0_pay58] : Fin 1 → IVec S16 32) a x).toNat < S16.size a := by
    intro a x
    fin_cases a
    show (k0_pay59 k0_pay58 x).toNat < 16
    have := (x 0).isLt
    rw [pay59_at]; change (x 0).val < 16 at this; omega
  unfold k0_chk2
  simp only [and_self]
  exact h

/-- The sixteen staged lanes a chunk gathers from. -/
abbrev lanes (off : Fin 3 → Nat) (hin : ∀ a, off a + S1x1x16.size a ≤ S2x112x112.size a) : Memref sig .scVector .vmem S16 .f32 :=
  (mI.slice (Rect.unit (s := S2x112x112) off S1x1x16.size hin) (fun _ => rfl)).squeeze S16 squeezes_S1x1x16_S16

/-- Lane `l` of the sixteen lanes at row `ρ`, column `c` of slot `p`, by the coordinates of the element it is. -/
theorem lanes_emb {off : Fin 3 → Nat} {p ρ c : ℕ} (hoff : off = ![p, ρ, c])
    (hin : ∀ a, off a + S1x1x16.size a ≤ S2x112x112.size a) (x : S16.Idx) :
    ((((lanes off hin).access (.whole S16)).emb x 0).val = p ∧ (((lanes off hin).access (.whole S16)).emb x 1).val = ρ)
      ∧ (((lanes off hin).access (.whole S16)).emb x 2).val = c + (x 0).val := by
  subst hoff
  have e : ∀ x : S16.Idx, Shape.reshapeEquiv squeezes_S1x1x16_S16.numel_eq x = ValueIdx.ix3 0 0 (x 0) := by
    intro x
    apply Shape.reshapeEquiv_eq_of_rowMajor
    revert x
    decide +kernel
  refine ⟨⟨?_, ?_⟩, ?_⟩
  · show p + 1 * ((Shape.reshapeEquiv squeezes_S1x1x16_S16.numel_eq ((Rect.whole S16).emb x)) 0).val = p
    rw [e]; simp
  · show ρ + 1 * ((Shape.reshapeEquiv squeezes_S1x1x16_S16.numel_eq ((Rect.whole S16).emb x)) 1).val = ρ
    rw [e]; simp
  · show c + 1 * ((Shape.reshapeEquiv squeezes_S1x1x16_S16.numel_eq ((Rect.whole S16).emb x)) 2).val = c + (x 0).val
    rw [e]
    show c + 1 * (0 + 1 * (x 0).val) = _
    omega

/-- One zero store: the first `c` columns of odd row `2r+1` zeroed become the first `c + 16`. -/
theorem zero_step {off : Fin 3 → Nat} {b r c : ℕ} (hoff : off = ![b, 2 * r + 1, c])
    (hin : ∀ a, off a + S1x1x16.size a ≤ S2x112x224.size a) (f : S2x112x224.Idx → Elt F .f32) (h : ZeroDone b r c f) :
    ZeroDone b r (c + 16) ((mS.access (Rect.unit (s := S2x112x224) off S1x1x16.size hin)).write (Elt F) f
      (shapeCast S1x1x16 (k0_pay57 (F := F)) shapeCasts_S16_S1x1x16) Finset.univ) := by
  intro y h0 h1 h2
  rw [store16 hoff]
  split
  · exact (cast16_at (F := F) (α := .f32) (k0_pay57 (F := F)) _).trans rfl
  · next hn => exact h y h0 h1 (by omega)

/-- A row finished is the next row not begun. -/
theorem zero_next {b r : ℕ} {f : S2x112x224.Idx → Elt F .f32} (h : ZeroDone b r 224 f) : ZeroDone b (r + 1) 0 f := by
  intro y h0 h1 h2
  have : (y 2).val < 224 := (y 2).isLt
  exact h y h0 h1 (by omega)

theorem zero_start (b : ℕ) (f : S2x112x224.Idx → Elt F .f32) : ZeroDone b 0 0 f := by
  intro y h0 h1 h2
  omega

/-- One chunk of a row: gathering chunk `j` of row `r`'s values out of the staged input slot, keeping the even lanes, and
    storing them takes the row's first `16 j` columns done to its first `16 j + 16`. -/
theorem row_step {X : S768x112x112.Idx → Elt F .f32} {n0 p b r j : ℕ} {offI offO : Fin 3 → Nat}
    (hI : offI = ![p, b * 56 + r, j / 2 * 16]) (hO : offO = ![b, 2 * r, 16 * j]) (hr : r < 56) (hb : b < 2)
    (hinI : ∀ a, offI a + S1x1x16.size a ≤ S2x112x112.size a) (hinO : ∀ a, offO a + S1x1x16.size a ≤ S2x112x224.size a)
    (idx : IVec S16 32) (hidx : ∀ x : S16.Idx, (idx x).toNat = (x 0).val / 2 + 8 * (j % 2))
    (hin : ∀ a x, ((![idx] : Fin 1 → IVec S16 32) a x).toNat < S16.size a)
    (fi : S2x112x112.Idx → Elt F .f32) (fo : S2x112x224.Idx → Elt F .f32)
    (hi : InHolds X p n0 fi) (hd : RowsDone X n0 b r (16 * j) fo) :
    RowsDone X n0 b r (16 * j + 16) ((mS.access (Rect.unit (s := S2x112x224) offO S1x1x16.size hinO)).write (Elt F) fo
      (shapeCast S1x1x16 (select k0_pay60 (loadIdx (((lanes offI hinI).access (.whole S16)).read (Elt F) fi) ![idx] hin)
        (broadcast S16 (Scalar.ofBits .f32 0x00000000#32 : F .f32))) shapeCasts_S16_S1x1x16) Finset.univ) := by
  refine ⟨?_, ?_⟩
  · intro y h0 h1 h2
    rw [store16 hO, dif_neg (by omega)]
    exact hd.1 y h0 h1 h2
  · intro y h0 h1 h2
    rw [store16 hO]
    split
    · next h =>
      obtain ⟨-, h3, h4, h5⟩ := h
      refine (cast16_at _ _).trans ?_
      generalize hl : (⟨(y 2).val - 16 * j, by omega⟩ : Fin 16) = l
      have hlv : l.val = (y 2).val - 16 * j := by rw [← hl]
      show (if k0_pay60 (ValueIdx.ix1 l) = 1#1 then loadIdx (((lanes offI hinI).access (.whole S16)).read (Elt F) fi) (![idx] : Fin S16.rank → IVec S16 32) hin (ValueIdx.ix1 l) else z0) = _
      rw [pay60_at]
      unfold want
      by_cases hev : l.val % 2 = 0
      · rw [if_pos (by rw [if_pos hev]), if_pos (by omega)]
        obtain ⟨⟨e0, e1⟩, e2⟩ := lanes_emb hI hinI (idxAt (s := S16) (![idx] : Fin S16.rank → IVec S16 32) hin (ValueIdx.ix1 l))
        refine (hi _ e0).trans ?_
        rw [e1, e2]
        have : (idxAt (s := S16) (![idx] : Fin S16.rank → IVec S16 32) hin (ValueIdx.ix1 l) 0).val = l.val / 2 + 8 * (j % 2) := hidx (ValueIdx.ix1 l)
        rw [this]
        congr 1 <;> omega
      · rw [if_neg (by rw [if_neg hev]; decide), if_neg (by omega)]
    · next hn => exact hd.2 y h0 h1 (by omega)

/-- A row finished is the next row not begun. -/
theorem row_next {X : S768x112x112.Idx → Elt F .f32} {n0 b r : ℕ} {f : S2x112x224.Idx → Elt F .f32}
    (h : RowsDone X n0 b r 224 f) : RowsDone X n0 b (r + 1) 0 f := by
  refine ⟨h.1, fun y h0 h1 h2 => ?_⟩
  have : (y 2).val < 224 := (y 2).isLt
  exact h.2 y h0 h1 (by omega)

theorem row_start {X : S768x112x112.Idx → Elt F .f32} {n0 b : ℕ} {f : S2x112x224.Idx → Elt F .f32}
    (h : ZeroDone b 56 0 f) : RowsDone X n0 b 0 0 f :=
  ⟨h, fun y h0 h1 h2 => by omega⟩

/-- All rows done: the slot holds half `b` of image `n0` unpooled. -/
theorem rows_all {X : S768x112x112.Idx → Elt F .f32} {n0 b : ℕ} {f : S2x112x224.Idx → Elt F .f32}
    (h : RowsDone X n0 b 56 0 f) (hb : b < 2) (y : S2x112x224.Idx) (h0 : (y 0).val = b) :
    f y = want X n0 (b * 112 + (y 1).val) (y 2).val := by
  have hy : (y 1).val < 112 := (y 1).isLt
  by_cases h1 : (y 1).val % 2 = 0
  · exact h.2 y h0 h1 (by omega)
  · rw [h.1 y h0 (by omega) (by omega)]
    unfold want
    rw [if_neg (by omega)]

end Cert.Proof.Unpool
-- ==== Proof.Rows.lean ====
/-
  The kernel's row programs, once for all of them: a row is fourteen chunks, a zero row fourteen stores; what each does
  to the staged slots.
-/
module

public import proofs.«01_k».proof.Proof.Val

@[expose] public section

noncomputable section

namespace Cert.Proof.Unpool

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MM F

/-- The weakest precondition of a program of the tile at `i`. -/
abbrev wpT (d : Dev nD) (i : grid0.Coords) {A : Type} (p : TileProg F i A) (Q : A → sProp 𝕄) : sProp 𝕄 :=
  wp frame (wpE (defs₀ (F := F)) 𝒱₀ (thr d i) none) Set.univ p Q

/-- `N` programs in order. -/
def seqFin {i : grid0.Coords} : (N : ℕ) → (Fin N → TileProg F i PUnit) → TileProg F i PUnit
  | 0, _ => pure ⟨⟩
  | N + 1, f => f 0 >>= fun _ => seqFin N fun j => f j.succ

/-- Programs run in order carry an invariant each of them advances. -/
theorem seqFin_wp (d : Dev nD) (i : grid0.Coords) : ∀ (N : ℕ) (f : Fin N → TileProg F i PUnit) (I : ℕ → sProp 𝕄)
    (_ : ∀ j : Fin N, I j.val ⊢ wpT d i (f j) fun _ => I (j.val + 1)), I 0 ⊢ wpT d i (seqFin N f) fun _ => I N
  | 0, _, I, _ => by
    unfold seqFin wpT
    rw [Prog.pure_eq_ret, wp_ret]
    exact fupd_intro
  | N + 1, f, I, h => by
    unfold seqFin wpT
    rw [wp_bind]
    exact (h 0).trans (wp_mono _ _ _ fun _ => seqFin_wp d i N (fun j => f j.succ) (fun n => I (n + 1)) fun j => h j.succ)

/-! ## The staged slots -/

/-- Slot `p` of the staged input; slot `b` of the staged output. -/
def slotI (p : ℕ) : Finset S2x112x112.Idx := Finset.univ.filter fun y => (y 0).val = p
def slotS (b : ℕ) : Finset S2x112x224.Idx := Finset.univ.filter fun y => (y 0).val = b

theorem mem_slotI {p : ℕ} {y : S2x112x112.Idx} : y ∈ slotI p ↔ (y 0).val = p := by simp [slotI]
theorem mem_slotS {b : ℕ} {y : S2x112x224.Idx} : y ∈ slotS b ↔ (y 0).val = b := by simp [slotS]

variable (X : S768x112x112.Idx → Elt F .f32) (d : Dev nD) (i : grid0.Coords)

/-- The tile's staged input slot `p`, holding image `n`. -/
def inSlot (p n : ℕ) : sProp 𝕄 :=
  iprop(∃ f : Buf (Elt F) (mI.view.loc (thr d i)), ⌜InHolds X p n f⌝ ∗ mI.view.loc (thr d i) ↦[slotI p]{fullShare} f)

/-- The tile's staged output slot `b`, holding something of which `R` is true. -/
def outSlot (b : ℕ) (R : (S2x112x224.Idx → Elt F .f32) → Prop) : sProp 𝕄 :=
  iprop(∃ f : Buf (Elt F) (mS.view.loc (thr d i)), ⌜R f⌝ ∗ mS.view.loc (thr d i) ↦[slotS b]{fullShare} f)

theorem outSlot_mono {b : ℕ} {R R' : (S2x112x224.Idx → Elt F .f32) → Prop} (h : ∀ f, R f → R' f) :
    outSlot d i b R ⊢ outSlot d i b R' := by
  unfold outSlot
  iintro ⟨%f, %hf, H⟩
  iexists f
  isplitr [H]
  · ipureintro; exact h f hf
  · iexact H

/-- A sixteen-lane access at slot `b` stays inside the slot. -/
theorem access_subset {off : Fin 3 → Nat} {b ρ c : ℕ} (hoff : off = ![b, ρ, c])
    (hin : ∀ a, off a + S1x1x16.size a ≤ S2x112x224.size a) :
    (mS.access (Rect.unit (s := S2x112x224) off S1x1x16.size hin)).set ⊆ slotS b := by
  subst hoff
  intro y hy
  obtain ⟨x, -, rfl⟩ := Finset.mem_map.mp hy
  rw [mem_slotS]
  have x0 : (x 0).val < 1 := (x 0).isLt
  show b + 1 * (x 0).val = b
  omega

/-- So does the load's window. -/
theorem load_subset {off : Fin 3 → Nat} {b ρ c : ℕ} (hoff : off = ![b, ρ, c])
    (hin : ∀ a, off a + S1x1x16.size a ≤ S2x112x224.size a) :
    mS.view.setOn (Rect.unit (s := S2x112x224) off S1x1x16.size hin).toLoadRect.set ⊆ slotS b := by
  subst hoff
  intro y hy
  obtain ⟨z, hz, rfl⟩ := Finset.mem_map.mp hy
  obtain ⟨x, rfl⟩ := LoadRect.exists_idx_of_mem _ hz
  rw [mem_slotS]
  have x0 : (x 0).val < 1 := (x 0).isLt
  show b + 1 * (x 0).val = b
  omega

/-- The lanes a chunk gathers from are inside their slot. -/
theorem lanes_subset {off : Fin 3 → Nat} {p ρ c : ℕ} (hoff : off = ![p, ρ, c])
    (hin : ∀ a, off a + S1x1x16.size a ≤ S2x112x112.size a) :
    ((lanes off hin).access (.whole S16)).set ⊆ slotI p := by
  intro y hy
  obtain ⟨x, -, rfl⟩ := Finset.mem_map.mp hy
  rw [mem_slotI]
  exact (lanes_emb hoff hin x).1.1

/-! ## One store, one chunk -/

/-- A dead read of sixteen lanes and a store over them. -/
def put (offO : Fin 3 → Nat) (hinO : ∀ a, offO a + S1x1x16.size a ≤ S2x112x224.size a) (w : Vec F S16 .f32) : TileProg F i PUnit := do
  let _ld : Vec F S1x1x16 .f32 ← Prog.lift (.load mS (Rect.unit (s := S2x112x224) offO S1x1x16.size hinO).toLoadRect (View.loadsAt_vmem h_S1x1x16))
  Prog.lift (.store mS (Rect.unit (s := S2x112x224) offO S1x1x16.size hinO) (shapeCast S1x1x16 w shapeCasts_S16_S1x1x16) Finset.univ (View.stores_vmem_bits_univ h_S1x1x16 rfl) (.inl rfl))

/-- A chunk: gather sixteen lanes, keep the even ones, store. -/
def chunk (offI : Fin 3 → Nat) (hinI : ∀ a, offI a + S1x1x16.size a ≤ S2x112x112.size a)
    (offO : Fin 3 → Nat) (hinO : ∀ a, offO a + S1x1x16.size a ≤ S2x112x224.size a)
    (v : IVec S16 32) (hv : ∀ a x, ((![v] : Fin 1 → IVec S16 32) a x).toNat < S16.size a) (mask : IVec S16 1) : TileProg F i PUnit := do
  let g : Vec F S16 .f32 ← SparseCore.vectorLoadIdx (lanes offI hinI) ![v] hv (View.loads_vmem h_S16)
  put i offO hinO (select mask g (broadcast S16 (Scalar.ofBits .f32 0x00000000#32 : F .f32)))

theorem put_wp {offO : Fin 3 → Nat} {b ρ c : ℕ} (hO : offO = ![b, ρ, c])
    (hinO : ∀ a, offO a + S1x1x16.size a ≤ S2x112x224.size a) (w : Vec F S16 .f32) (f : S2x112x224.Idx → Elt F .f32) :
    (mS.view.loc (thr d i) ↦[slotS b]{fullShare} f : sProp 𝕄) ⊢ wpT d i (put i offO hinO w) fun _ =>
      mS.view.loc (thr d i) ↦[slotS b]{fullShare} ((mS.access (Rect.unit (s := S2x112x224) offO S1x1x16.size hinO)).write (Elt F) f
        (shapeCast S1x1x16 w shapeCasts_S16_S1x1x16) Finset.univ) := by
  unfold put
  simp only [Prog.lift, Prog.bind_op, Prog.bind_ret, Prog.pure_eq_ret]
  iintro H
  iapply wp_load 𝒱₀ (thr d i) none Set.univ (m := mS) (load_subset hO hinO) $$ H
  iintro H
  iapply wp_store 𝒱₀ (thr d i) none Set.univ (m := mS) (access_subset hO hinO) $$ H
  iintro H
  simp only [wp_ret]
  imodintro
  iexact H

theorem chunk_wp {offI offO : Fin 3 → Nat} {p b r c ρ c' : ℕ} (hI : offI = ![p, r, c]) (hO : offO = ![b, ρ, c'])
    (hinI : ∀ a, offI a + S1x1x16.size a ≤ S2x112x112.size a)
    (hinO : ∀ a, offO a + S1x1x16.size a ≤ S2x112x224.size a)
    (v : IVec S16 32) (hv : ∀ a x, ((![v] : Fin 1 → IVec S16 32) a x).toNat < S16.size a) (mask : IVec S16 1)
    (fi : S2x112x112.Idx → Elt F .f32) (f : S2x112x224.Idx → Elt F .f32) :
    (iprop((mI.view.loc (thr d i) ↦[slotI p]{fullShare} fi) ∗ (mS.view.loc (thr d i) ↦[slotS b]{fullShare} f)) : sProp 𝕄)
      ⊢ wpT d i (chunk i offI hinI offO hinO v hv mask) fun _ =>
      iprop((mI.view.loc (thr d i) ↦[slotI p]{fullShare} fi) ∗
        (mS.view.loc (thr d i) ↦[slotS b]{fullShare} ((mS.access (Rect.unit (s := S2x112x224) offO S1x1x16.size hinO)).write (Elt F) f
          (shapeCast S1x1x16 (select mask (loadIdx (((lanes offI hinI).access (.whole S16)).read (Elt F) fi) ![v] hv)
        (broadcast S16 (Scalar.ofBits .f32 0x00000000#32 : F .f32))) shapeCasts_S16_S1x1x16) Finset.univ))) := by
  unfold chunk
  iintro ⟨HI, HO⟩
  iapply SparseCore.wp_vectorLoadIdx 𝒱₀ (thr d i) none Set.univ (base := lanes offI hinI) (lanes_subset hI hinI) $$ HI
  iintro HI
  iapply (wp_wand _ _ _) $$ [HO]
  · iapply put_wp d i hO hinO $$ HO
  · iintro %u HO
    isplitl [HI] <;> iassumption

/-- A chunk of row `r` of half `b`, in terms of what the slots hold. -/
theorem chunk_step {p b n0 r j : ℕ} {offI offO : Fin 3 → Nat} (hI : offI = ![p, b * 56 + r, j / 2 * 16]) (hO : offO = ![b, 2 * r, 16 * j])
    (hr : r < 56) (hb : b < 2)
    (hinI : ∀ a, offI a + S1x1x16.size a ≤ S2x112x112.size a)
    (hinO : ∀ a, offO a + S1x1x16.size a ≤ S2x112x224.size a)
    (v : IVec S16 32) (hv : ∀ a x, ((![v] : Fin 1 → IVec S16 32) a x).toNat < S16.size a)
    (hidx : ∀ x : S16.Idx, (v x).toNat = (x 0).val / 2 + 8 * (j % 2)) :
    (iprop(inSlot X d i p n0 ∗ outSlot d i b (RowsDone X n0 b r (16 * j))) : sProp 𝕄)
      ⊢ wpT d i (chunk i offI hinI offO hinO v hv k0_pay60) fun _ =>
        iprop(inSlot X d i p n0 ∗ outSlot d i b (RowsDone X n0 b r (16 * j + 16))) := by
  unfold inSlot outSlot
  iintro ⟨⟨%fi, %hfi, HI⟩, ⟨%fo, %hfo, HO⟩⟩
  iapply (wp_wand _ _ _) $$ [HI HO]
  · iapply chunk_wp d i hI hO hinI hinO v hv k0_pay60 fi fo $$ [HI HO]
    isplitl [HI] <;> iassumption
  · iintro %u ⟨HI, HO⟩
    isplitl [HI]
    · iexists fi
      isplitr [HI]
      · ipureintro; exact hfi
      · iexact HI
    · iexists _
      isplitr [HO]
      · ipureintro; exact row_step hI hO hr hb hinI hinO v hidx hv fi fo hfi hfo
      · iexact HO

/-- A zero store of odd row `2r+1`, in terms of what the slot holds. -/
theorem zero_store {b r c : ℕ} {offO : Fin 3 → Nat} (hO : offO = ![b, 2 * r + 1, c])
    (hinO : ∀ a, offO a + S1x1x16.size a ≤ S2x112x224.size a) :
    (outSlot d i b (ZeroDone b r c) : sProp 𝕄) ⊢ wpT d i (put i offO hinO (k0_pay57 (F := F))) fun _ => outSlot d i b (ZeroDone b r (c + 16)) := by
  unfold outSlot
  iintro ⟨%fo, %hfo, HO⟩
  iapply (wp_wand _ _ _) $$ [HO]
  · iapply put_wp d i hO hinO (k0_pay57 (F := F)) fo $$ HO
  · iintro %u HO
    iexists _
    isplitr [HO]
    · ipureintro; exact zero_step hO hinO fo hfo
    · iexact HO

/-! ## A row -/

/-- The offsets of a row's chunks: row `r` of half `b`, gathered out of slot `p`; each pair gathers the low and the high
    half of the same sixteen lanes. -/
structure RowOffs (p b r : ℕ) where
  inL : Fin 7 → Fin 3 → Nat
  inH : Fin 7 → Fin 3 → Nat
  outL : Fin 7 → Fin 3 → Nat
  outH : Fin 7 → Fin 3 → Nat
  hinL : ∀ j, inL j = ![p, b * 56 + r, j.val * 16]
  hinH : ∀ j, inH j = ![p, b * 56 + r, j.val * 16]
  houtL : ∀ j, outL j = ![b, 2 * r, 32 * j.val]
  houtH : ∀ j, outH j = ![b, 2 * r, 32 * j.val + 16]

/-- The offsets of a zero row's stores: odd row `2r+1` of half `b`. -/
structure ZeroOffs (b r : ℕ) where
  out : Fin 14 → Fin 3 → Nat
  hout : ∀ j, out j = ![b, 2 * r + 1, 16 * j.val]

theorem in_inb {off : Fin 3 → Nat} {p ρ c : ℕ} (h : off = ![p, ρ, c]) (hp : p < 2) (hρ : ρ < 112) (hc : c + 16 ≤ 112) :
    ∀ a, off a + S1x1x16.size a ≤ S2x112x112.size a := by
  subst h
  intro a
  fin_cases a
  · show p + 1 ≤ 2; omega
  · show ρ + 1 ≤ 112; omega
  · show c + 16 ≤ 112; omega

theorem out_inb {off : Fin 3 → Nat} {b ρ c : ℕ} (h : off = ![b, ρ, c]) (hb : b < 2) (hρ : ρ < 112) (hc : c + 16 ≤ 224) :
    ∀ a, off a + S1x1x16.size a ≤ S2x112x224.size a := by
  subst h
  intro a
  fin_cases a
  · show b + 1 ≤ 2; omega
  · show ρ + 1 ≤ 112; omega
  · show c + 16 ≤ 224; omega

section Row

variable {p b r : ℕ} (hp : p < 2) (hb : b < 2) (hr : r < 56)

/-- A row's fourteen chunks, in pairs. -/
def rowProg (o : RowOffs p b r) (v : IVec S16 32) (hv : ∀ a x, ((![v] : Fin 1 → IVec S16 32) a x).toNat < S16.size a)
    (w : IVec S16 32) (hw : ∀ a x, ((![w] : Fin 1 → IVec S16 32) a x).toNat < S16.size a) (mask : IVec S16 1) : TileProg F i PUnit :=
  seqFin 7 fun j => do
    chunk i (o.inL j) (in_inb (o.hinL j) hp (by omega) (by omega)) (o.outL j) (out_inb (o.houtL j) hb (by omega) (by omega)) v hv mask
    chunk i (o.inH j) (in_inb (o.hinH j) hp (by omega) (by omega)) (o.outH j) (out_inb (o.houtH j) hb (by omega) (by omega)) w hw mask

/-- A row's chunks take the row from not begun to the next not begun. -/
theorem row_wp (n0 : ℕ) (o : RowOffs p b r) (hv : ∀ a x, ((![k0_pay58] : Fin 1 → IVec S16 32) a x).toNat < S16.size a)
    (hw : ∀ a x, ((![k0_pay59 k0_pay58] : Fin 1 → IVec S16 32) a x).toNat < S16.size a) :
    (iprop(inSlot X d i p n0 ∗ outSlot d i b (RowsDone X n0 b r 0)) : sProp 𝕄)
      ⊢ wpT d i (rowProg i hp hb hr o k0_pay58 hv (k0_pay59 k0_pay58) hw k0_pay60) fun _ =>
        iprop(inSlot X d i p n0 ∗ outSlot d i b (RowsDone X n0 b (r + 1) 0)) := by
  unfold rowProg
  refine (seqFin_wp d i 7 _ (fun n => iprop(inSlot X d i p n0 ∗ outSlot d i b (RowsDone X n0 b r (32 * n)))) ?_).trans
    (wp_mono _ _ _ fun _ => sep_mono_right (outSlot_mono d i fun f h => row_next h))
  intro j
  unfold wpT
  rw [wp_bind]
  have e : 32 * j.val = 16 * (2 * j.val) := by omega
  have e' : 32 * (j.val + 1) = 16 * (2 * j.val + 1) + 16 := by omega
  have e'' : 16 * (2 * j.val) + 16 = 16 * (2 * j.val + 1) := by omega
  rw [e, e']
  refine (chunk_step X d i (j := 2 * j.val) ((o.hinL j).trans (by congr 3; omega)) ((o.houtL j).trans (by rw [e])) hr hb _ _ _ hv ?_).trans
    (wp_mono _ _ _ fun _ => ?_)
  · intro x; rw [pay58_at]; omega
  rw [e'']
  refine (chunk_step X d i (j := 2 * j.val + 1) ((o.hinH j).trans (by congr 3; omega)) ((o.houtH j).trans (by congr 3; omega)) hr hb _ _ _ hw ?_)
  intro x; rw [pay59_at]; omega

end Row

/-- A zero row's fourteen stores. -/
def zeroProg {b r : ℕ} (hb : b < 2) (hr : r < 56) (o : ZeroOffs b r) (w : Vec F S16 .f32) : TileProg F i PUnit :=
  seqFin 14 fun j => put i (o.out j) (out_inb (o.hout j) hb (by omega) (by omega)) w

/-- A zero row's stores take the zeroing from one odd row to the next. -/
theorem zeroRow_wp {b r : ℕ} (hb : b < 2) (hr : r < 56) (o : ZeroOffs b r) :
    (outSlot d i b (ZeroDone b r 0) : sProp 𝕄)
      ⊢ wpT d i (zeroProg i hb hr o (k0_pay57 (F := F))) fun _ => outSlot d i b (ZeroDone b (r + 1) 0) := by
  unfold zeroProg
  refine (seqFin_wp d i 14 _ (fun n => outSlot d i b (ZeroDone b r (16 * n))) ?_).trans
    (wp_mono _ _ _ fun _ => outSlot_mono d i fun f h => zero_next h)
  intro j
  exact zero_store d i (o.hout j) _

end Cert.Proof.Unpool
-- ==== Proof.Slabs.lean ====
/-
  The slabs the kernel's copies move — one image of the input, one staged input slot, one staged output slot, one half of
  an output image — by coordinates, and what each copy leaves at its destination.
-/
module

public import proofs.«01_k».proof.Proof.Rows
public import Idealize.ShloMosaic.Lib.ValueLayout

@[expose] public section

noncomputable section

namespace Cert.Proof.Unpool

open Cert.KernelIdeal Cert.KernelIdeal.Gen
open Idealize.ShloMosaic Idealize.SL.Sem
open Idealize.ShloMosaic.ValueIdx

variable {F : FTy → Type} [FloatOps F]

theorem slotI_inb {p : ℕ} (hp : p < 2) : ∀ a, (![p, 0, 0] : Fin 3 → Nat) a + S1x112x112.size a ≤ S2x112x112.size a := by
  intro a
  fin_cases a
  · show p + 1 ≤ 2; omega
  · show 0 + 112 ≤ 112; omega
  · show 0 + 112 ≤ 112; omega

theorem slotS_inb {b : ℕ} (hb : b < 2) : ∀ a, (![b, 0, 0] : Fin 3 → Nat) a + S1x112x224.size a ≤ S2x112x224.size a := by
  intro a
  fin_cases a
  · show b + 1 ≤ 2; omega
  · show 0 + 112 ≤ 112; omega
  · show 0 + 224 ≤ 224; omega

theorem sem_inb {p : ℕ} (hp : p < 2) : ∀ a, (![p] : Fin 1 → Nat) a + S1.size a ≤ S2.size a := by
  intro a
  fin_cases a
  show p + 1 ≤ 2; omega

/-- Staged input slot `p`, staged output slot `b`, as the copies name them. -/
abbrev sIn {p : ℕ} (hp : p < 2) : Memref sig .scVector .vmem S112x112 .f32 :=
  (mI.slice (Rect.unit (s := S2x112x112) ![p, 0, 0] S1x112x112.size (slotI_inb hp)) (fun _ => rfl)).squeeze S112x112 squeezes_S1x112x112_S112x112
abbrev sOut {b : ℕ} (hb : b < 2) : Memref sig .scVector .vmem S112x224 .f32 :=
  (mS.slice (Rect.unit (s := S2x112x224) ![b, 0, 0] S1x112x224.size (slotS_inb hb)) (fun _ => rfl)).squeeze S112x224 squeezes_S1x112x224_S112x224

/-- The input image, the output half image, at an offset, as the copies name them. -/
abbrev gIn (off : Fin 3 → Nat) (h : ∀ a, off a + S1x112x112.size a ≤ S768x112x112.size a) : Memref sig .scVector .hbm S112x112 .f32 :=
  (mX.slice (Rect.unit (s := S768x112x112) off S1x112x112.size h) (fun _ => rfl)).squeeze S112x112 squeezes_S1x112x112_S112x112
abbrev gOut (off : Fin 3 → Nat) (h : ∀ a, off a + S1x112x224.size a ≤ S768x224x224.size a) : Memref sig .scVector .hbm S112x224 .f32 :=
  (mO.slice (Rect.unit (s := S768x224x224) off S1x112x224.size h) (fun _ => rfl)).squeeze S112x224 squeezes_S1x112x224_S112x224

/-- The semaphores of slot `p`'s fetch and of slot `b`'s write-out. -/
abbrev semIn {p : ℕ} (hp : p < 2) : DmaSem sig :=
  ((cc0_scratch2.slice (Rect.unit (s := S2) ![p] S1.size (sem_inb hp))).squeeze S_ squeezes_S1_S_).sem
abbrev semOut {b : ℕ} (hb : b < 2) : DmaSem sig :=
  ((cc0_scratch3.slice (Rect.unit (s := S2) ![b] S1.size (sem_inb hb))).squeeze S_ squeezes_S1_S_).sem

/-- Two indices of one array with the same coordinates are the same. -/
theorem ext3 {n0 n1 n2 : ℕ} {y z : (⟨3, ![n0, n1, n2]⟩ : Shape).Idx} (h0 : (y 0).val = (z 0).val) (h1 : (y 1).val = (z 1).val)
    (h2 : (y 2).val = (z 2).val) : y = z := by
  funext a
  apply Fin.ext
  fin_cases a
  · exact h0
  · exact h1
  · exact h2

/-- A slab of one plane of a rank-3 array, squeezed: the coordinates of its element `x`. -/
theorem plane_emb {A B C h w : ℕ} (off : Fin 3 → Nat) {u v t : ℕ} (hoff : off = ![u, v, t])
    (hin : ∀ a, off a + (![1, h, w] : Fin 3 → Nat) a ≤ (⟨3, ![A, B, C]⟩ : Shape).size a)
    (hn : (⟨2, ![h, w]⟩ : Shape).numel = (⟨3, ![1, h, w]⟩ : Shape).numel) (x : (⟨2, ![h, w]⟩ : Shape).Idx) :
    ((Rect.unit (s := ⟨3, ![A, B, C]⟩) off ![1, h, w] hin).emb (Shape.reshapeEquiv hn x) 0).val = u
      ∧ ((Rect.unit (s := ⟨3, ![A, B, C]⟩) off ![1, h, w] hin).emb (Shape.reshapeEquiv hn x) 1).val = v + (x 0).val
      ∧ ((Rect.unit (s := ⟨3, ![A, B, C]⟩) off ![1, h, w] hin).emb (Shape.reshapeEquiv hn x) 2).val = t + (x 1).val := by
  subst hoff
  have e : Shape.reshapeEquiv hn x = ix3 (⟨0, Nat.one_pos⟩ : Fin 1) (x 0) (x 1) := by
    conv_lhs => rw [eq_ix2 x]
    exact reshapeEquiv_ix2_1ab hn (x 0) (x 1)
  rw [e]
  refine ⟨?_, ?_, ?_⟩
  · show u + 1 * 0 = u; omega
  · show v + 1 * (x 0).val = v + (x 0).val; omega
  · show t + 1 * (x 1).val = t + (x 1).val; omega

theorem sIn_emb {p : ℕ} (hp : p < 2) (x : S112x112.Idx) :
    ((sIn hp).view.emb x 0).val = p ∧ ((sIn hp).view.emb x 1).val = 0 + (x 0).val ∧ ((sIn hp).view.emb x 2).val = 0 + (x 1).val :=
  plane_emb _ rfl (slotI_inb hp) _ x

theorem sOut_emb {b : ℕ} (hb : b < 2) (x : S112x224.Idx) :
    ((sOut hb).view.emb x 0).val = b ∧ ((sOut hb).view.emb x 1).val = 0 + (x 0).val ∧ ((sOut hb).view.emb x 2).val = 0 + (x 1).val :=
  plane_emb _ rfl (slotS_inb hb) _ x

theorem gIn_emb {off : Fin 3 → Nat} {n : ℕ} (hoff : off = ![n, 0, 0]) (h : ∀ a, off a + S1x112x112.size a ≤ S768x112x112.size a) (x : S112x112.Idx) :
    ((gIn off h).view.emb x 0).val = n ∧ ((gIn off h).view.emb x 1).val = 0 + (x 0).val ∧ ((gIn off h).view.emb x 2).val = 0 + (x 1).val :=
  plane_emb _ hoff h _ x

theorem gOut_emb {off : Fin 3 → Nat} {n v : ℕ} (hoff : off = ![n, v, 0]) (h : ∀ a, off a + S1x112x224.size a ≤ S768x224x224.size a) (x : S112x224.Idx) :
    ((gOut off h).view.emb x 0).val = n ∧ ((gOut off h).view.emb x 1).val = v + (x 0).val ∧ ((gOut off h).view.emb x 2).val = 0 + (x 1).val :=
  plane_emb _ hoff h _ x

/-- The first image of the tile at `i`. -/
def base (i : grid0.Coords) : ℕ := 48 * (i 1).val + 24 * (i 0).val

theorem base_lt (i : grid0.Coords) : base i + 24 ≤ 768 := by
  have h0 : (i 0).val < 2 := (i 0).isLt
  have h1 : (i 1).val < 16 := (i 1).isLt
  unfold base
  omega

/-- Half `b` of the images of the tile at `i`. -/
def halfO (i : grid0.Coords) (b : ℕ) : Finset S768x224x224.Idx :=
  Finset.univ.filter fun y => base i ≤ (y 0).val ∧ (y 0).val < base i + 24 ∧ (y 1).val / 112 = b

theorem mem_halfO {i : grid0.Coords} {b : ℕ} {y : S768x224x224.Idx} :
    y ∈ halfO i b ↔ base i ≤ (y 0).val ∧ (y 0).val < base i + 24 ∧ (y 1).val / 112 = b := by simp [halfO]

theorem sIn_subset {p : ℕ} (hp : p < 2) : (sIn hp).view.set ⊆ slotI p := by
  intro y hy
  obtain ⟨x, -, rfl⟩ := Finset.mem_map.mp hy
  exact mem_slotI.mpr (sIn_emb hp x).1

theorem sOut_subset {b : ℕ} (hb : b < 2) : (sOut hb).view.set ⊆ slotS b := by
  intro y hy
  obtain ⟨x, -, rfl⟩ := Finset.mem_map.mp hy
  exact mem_slotS.mpr (sOut_emb hb x).1

/-- The element of slot `b` at an index of it. -/
theorem sOut_at {b : ℕ} (hb : b < 2) {y : S2x112x224.Idx} (hy : (y 0).val = b) :
    (sOut hb).view.emb (ix2 (⟨(y 1).val, (y 1).isLt⟩ : Fin 112) (⟨(y 2).val, (y 2).isLt⟩ : Fin 224)) = y := by
  obtain ⟨h0, h1, h2⟩ := sOut_emb hb (ix2 (⟨(y 1).val, (y 1).isLt⟩ : Fin 112) (⟨(y 2).val, (y 2).isLt⟩ : Fin 224))
  exact ext3 (h0.trans hy.symm) (h1.trans (Nat.zero_add _)) (h2.trans (Nat.zero_add _))

theorem slotS_subset {b : ℕ} (hb : b < 2) : slotS b ⊆ (sOut hb).view.set := by
  intro y hy
  rw [← sOut_at hb (mem_slotS.mp hy)]
  exact View.emb_mem_set _ _

theorem gOut_subset {i : grid0.Coords} {off : Fin 3 → Nat} {k b : ℕ} (hoff : off = ![base i + k, b * 112, 0])
    (h : ∀ a, off a + S1x112x224.size a ≤ S768x224x224.size a) (hk : k < 24) : (gOut off h).view.set ⊆ halfO i b := by
  intro y hy
  obtain ⟨x, -, rfl⟩ := Finset.mem_map.mp hy
  have hx : (x 0).val < 112 := (x 0).isLt
  obtain ⟨h0, h1, -⟩ := gOut_emb hoff h x
  rw [mem_halfO]
  refine ⟨?_, ?_, ?_⟩ <;> omega

/-- A fetched slot holds the image fetched. -/
theorem fetch_holds (X : S768x112x112.Idx → Elt F .f32) {p n : ℕ} (hp : p < 2) {off : Fin 3 → Nat} (hoff : off = ![n, 0, 0])
    (h : ∀ a, off a + S1x112x112.size a ≤ S768x112x112.size a) (f : S2x112x112.Idx → Elt F .f32) :
    InHolds X p n ((sIn hp).view.write (Elt F) f ((gIn off h).view.read (Elt F) X) Finset.univ) := by
  intro y hy
  obtain ⟨x, hx0, hx1⟩ : ∃ x : S112x112.Idx, (x 0).val = (y 1).val ∧ (x 1).val = (y 2).val :=
    ⟨ix2 (⟨(y 1).val, (y 1).isLt⟩ : Fin 112) (⟨(y 2).val, (y 2).isLt⟩ : Fin 112), rfl, rfl⟩
  obtain ⟨e0, e1, e2⟩ := sIn_emb hp x
  have e : (sIn hp).view.emb x = y := ext3 (by omega) (by omega) (by omega)
  conv_lhs => rw [← e]
  refine (View.write_emb_of_mem _ _ (Finset.mem_univ _)).trans ?_
  show X ((gIn off h).view.emb x) = _
  obtain ⟨g0, g1, g2⟩ := gIn_emb hoff h x
  rw [← at3_eq X, g0, g1, g2, hx0, hx1, Nat.zero_add, Nat.zero_add]

/-- Writing image `n`'s finished half out extends the images done by one. -/
theorem writeOut_holds (X : S768x112x112.Idx → Elt F .f32) (i : grid0.Coords) {k b : ℕ} (hb : b < 2) {off : Fin 3 → Nat}
    (hoff : off = ![base i + k, b * 112, 0]) (h : ∀ a, off a + S1x112x224.size a ≤ S768x224x224.size a)
    (f : S2x112x224.Idx → Elt F .f32) (hf : RowsDone X (base i + k) b 56 0 f) (g : S768x224x224.Idx → Elt F .f32)
    (hg : ∀ y ∈ halfO i b, (y 0).val < base i + k → g y = unp X y) :
    ∀ y ∈ halfO i b, (y 0).val < base i + (k + 1) →
      (gOut off h).view.write (Elt F) g ((sOut hb).view.read (Elt F) f) Finset.univ y = unp X y := by
  intro y hy hlt
  obtain ⟨h0, h1, h2⟩ := mem_halfO.mp hy
  have hy2 : (y 2).val < 224 := (y 2).isLt
  by_cases hc : (y 0).val = base i + k
  · obtain ⟨x, hx0, hx1⟩ : ∃ x : S112x224.Idx, (x 0).val = (y 1).val - b * 112 ∧ (x 1).val = (y 2).val :=
      ⟨ix2 (⟨(y 1).val - b * 112, by omega⟩ : Fin 112) (⟨(y 2).val, hy2⟩ : Fin 224), rfl, rfl⟩
    obtain ⟨e0, e1, e2⟩ := gOut_emb hoff h x
    have e : (gOut off h).view.emb x = y := ext3 (by omega) (by omega) (by omega)
    conv_lhs => rw [← e]
    refine (View.write_emb_of_mem _ _ (Finset.mem_univ _)).trans ?_
    show f ((sOut hb).view.emb x) = _
    obtain ⟨s0, s1, s2⟩ := sOut_emb hb x
    rw [rows_all hf hb _ s0, s1, s2]
    unfold unp
    rw [hc]
    congr 1 <;> omega
  · refine (View.write_of_not_mem _ _ _ ?_).trans (hg y hy (by omega))
    intro hm
    obtain ⟨x, -, rfl⟩ := Finset.mem_map.mp hm
    exact hc (gOut_emb hoff h x).1

end Cert.Proof.Unpool
-- ==== Proof.Dma.lean ====
/-
  The kernel's four copy operations — start and finish a fetch, start and finish a write-out — and what each does to the
  tile's resources.
-/
module

public import proofs.«01_k».proof.Proof.Slabs

@[expose] public section

noncomputable section

namespace Cert.Proof.Unpool

open Cert.KernelIdeal Cert.KernelIdeal.Gen
open Idealize.ShloMosaic Idealize.ShloMosaic.Transfers
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MM F

/-- A flight delivers, besides what it delivers, whatever is put beside it. -/
theorem flight_frame (c : Thread nD τ) {sm : SemLoc sig} {ι : HIx 1} {N : ℕ} {R' D' : sProp 𝕄} :
    iprop(Flight (EC (F := F)) c sm ι N D' ∗ R') ⊢ Flight (EC (F := F)) c sm ι N iprop(D' ∗ R') := by
  unfold Flight
  iintro ⟨⟨⟨%R, HR, %hcap, %hpeek⟩, Hcred⟩, HX⟩
  isplitl [HR HX]
  · iexists iprop(R ∗ R')
    isplitl [HR HX]
    · isplitl [HR] <;> iassumption
    isplit
    · ipureintro
      intro K
      refine BIBase.Entails.trans ?_ (hcap K)
      iintro ⟨⟨HR, HX⟩, HK⟩
      isplitl [HR]; · iexact HR
      iintro ⟨Hv, HD⟩
      iapply HK
      isplitl [Hv]; · iexact Hv
      isplitl [HD] <;> iassumption
    · ipureintro
      intro K
      refine BIBase.Entails.trans ?_ (hpeek K)
      iintro ⟨⟨HR, HX⟩, HK⟩
      isplitl [HR]; · iexact HR
      iintro HR
      iapply HK
      isplitl [HR] <;> iassumption
  · iexact Hcred

/-! ## The operations -/

variable (i : grid0.Coords)

/-- Start fetching the image at `off` into slot `p`. -/
def startIn {p : ℕ} (hp : p < 2) (off : Fin 3 → Nat) (h : ∀ a, off a + S1x112x112.size a ≤ S768x112x112.size a) : TileProg F i PUnit :=
  Prog.lift (.enqueueDma (gIn off h) (.here (sIn hp)) (.dma (semIn hp)) ((View.wordExact_bits rfl).reshape _ _) ((View.wordExact_bits rfl).reshape _ _) ⟨Or.inl rfl, trivial⟩)

/-- Wait for the fetch into slot `p`. -/
def waitIn {p : ℕ} (hp : p < 2) (off : Fin 3 → Nat) (h : ∀ a, off a + S1x112x112.size a ≤ S768x112x112.size a) : TileProg F i PUnit :=
  Prog.lift (.waitDma2 (semIn hp) (gIn off h) (sIn hp) ((View.wordExact_bits rfl).reshape _ _) ((View.wordExact_bits rfl).reshape _ _))

/-- Start writing slot `b` out to the half image at `off`. -/
def startOut {b : ℕ} (hb : b < 2) (off : Fin 3 → Nat) (h : ∀ a, off a + S1x112x224.size a ≤ S768x224x224.size a) : TileProg F i PUnit :=
  Prog.lift (.enqueueDma (sOut hb) (.here (gOut off h)) (.dma (semOut hb)) ((View.wordExact_bits rfl).reshape _ _) ((View.wordExact_bits rfl).reshape _ _) ⟨Or.inl rfl, trivial⟩)

/-- Wait for slot `b`'s write-out. -/
def waitOut {b : ℕ} (hb : b < 2) (off : Fin 3 → Nat) (h : ∀ a, off a + S1x112x224.size a ≤ S768x224x224.size a) : TileProg F i PUnit :=
  Prog.lift (.waitDma2 (semOut hb) (sOut hb) (gOut off h) ((View.wordExact_bits rfl).reshape _ _) ((View.wordExact_bits rfl).reshape _ _))

/-! ## The resources -/

variable (X : S768x112x112.Idx → Elt F .f32) (d : Dev nD)

/-- The units of a fetch and of a write-out. -/
abbrev NI : ℕ := sig.dmaCredit .scVector (Kind.scVector.table .vmem) (cc0_scratch0 : Ref sig .scVector).idx S112x112 .f32
abbrev NO : ℕ := sig.dmaCredit .scVector (Kind.scVector.table .hbm) (main_v1_scv : Ref sig .scVector).idx S112x224 .f32
theorem NI_pos : 0 < NI := sig.dmaCredit_pos _ _ _ _ _ (by decide)
theorem NO_pos : 0 < NO := sig.dmaCredit_pos _ _ _ _ _ (by decide)

/-- Share `q` of the whole input. -/
def xShare (q : PosShare TreeShare) : sProp 𝕄 := mX.view.loc (thr d i) ↦[Finset.univ]{q} X

/-- The tile's images' half `b` of the output, the first `k` of them unpooled. -/
def outHalf (b k : ℕ) : sProp 𝕄 :=
  iprop(∃ g : Buf (Elt F) (mO.view.loc (thr d i)), ⌜∀ y ∈ halfO i b, (y 0).val < base i + k → g y = unp X y⌝
    ∗ mO.view.loc (thr d i) ↦[halfO i b]{fullShare} g)

/-- The tile owes `O`, has recorded waits beyond `W` at no index, and may wait on any of its cells. -/
def ow (O : CellTallies nD τ sig (HIx 1)) (W : Waits sig (HIx 1)) : sProp 𝕄 :=
  iprop((∃ W', ⌜∀ p ∈ W', p ∈ W ∨ p.2 = none⌝ ∗ owes (thr d i) O W') ∗ MayWaits (thr d i) none O)

theorem startIn_wp {p n : ℕ} (hp : p < 2) {off : Fin 3 → Nat} (hoff : off = ![n, 0, 0])
    (h : ∀ a, off a + S1x112x112.size a ≤ S768x112x112.size a) (q : PosShare TreeShare) (f : S2x112x112.Idx → Elt F .f32) :
    (iprop((mI.view.loc (thr d i) ↦[slotI p]{fullShare} f) ∗ xShare i X d q ∗ semVal (thr d i, SemLoc.dma (semIn hp)) 0) : sProp 𝕄)
      ⊢ wpT d i (startIn i hp off h) fun _ => Flight (EC (F := F)) (thr d i) (.dma (semIn hp)) none NI iprop(inSlot X d i p n ∗ xShare i X d q) := by
  unfold startIn xShare
  simp only [Prog.lift]
  iintro ⟨HI, HX, HS⟩
  ihave ⟨Hs, Hr⟩ := (pointsTo_split_subset (Finset.subset_univ (gIn off h).view.set)).1 $$ HX
  iapply wp_dmaLocal EC 𝒱₀ (thr d i) none (src := gIn off h) (dst := sIn hp) (none : HIx 1) NI rfl NI_pos (sIn_subset hp) $$ [HI Hs HS]
  · isplitl [Hs]; · iexact Hs
    isplitl [HI]; · iexact HI
    iexact HS
  iintro HF
  rw [wp_ret]
  imodintro
  ihave HF := flight_frame (thr d i) $$ [HF Hr]
  · isplitl [HF]; · iexact HF
    iexact Hr
  iapply Flight_mono EC (thr d i) ?_ $$ HF
  iintro ⟨⟨HI, Hs⟩, Hr⟩
  isplitl [HI]
  · unfold inSlot
    iexists _
    isplitr [HI]
    · ipureintro
      exact fetch_holds X hp hoff h f
    · iexact HI
  · iapply (pointsTo_split_subset (Finset.subset_univ (gIn off h).view.set)).2
    isplitl [Hs]; · iexact Hs
    iexact Hr

theorem waitIn_wp {p : ℕ} (hp : p < 2) {off : Fin 3 → Nat} (h : ∀ a, off a + S1x112x112.size a ≤ S768x112x112.size a) (R : sProp 𝕄)
    (O : CellTallies nD τ sig (HIx 1)) (W : Waits sig (HIx 1)) :
    (iprop(Flight (EC (F := F)) (thr d i) (.dma (semIn hp)) none NI R ∗ ow i d O W) : sProp 𝕄)
      ⊢ wpT d i (waitIn i hp off h) fun _ => iprop(R ∗ semVal (thr d i, SemLoc.dma (semIn hp)) 0 ∗ ow i d O W) := by
  unfold waitIn ow
  simp only [Prog.lift]
  iintro ⟨HF, ⟨%W', %hW, HO⟩, #Hm⟩
  iapply wp_waitLocalO EC 𝒱₀ (thr d i) none (none : HIx 1) (N := NI) rfl $$ [HF HO]
  · isplitl [HF]; · iexact HF
    isplitl [HO]; · iexact HO
    iapply MayWaits.elim (SemLoc.dma (semIn hp)) $$ Hm
  iintro ⟨HR, HS, HO⟩
  rw [wp_ret]
  imodintro
  isplitl [HR]; · iexact HR
  isplitl [HS]; · iexact HS
  isplitl [HO]
  · iexists (insert (SemLoc.dma (semIn hp), none) W')
    isplitr [HO]
    · ipureintro
      intro p hp'
      rcases Finset.mem_insert.mp hp' with rfl | hp'
      · exact .inr rfl
      · exact hW p hp'
    · iexact HO
  · iexact Hm

theorem startOut_wp {b k : ℕ} (hb : b < 2) (hk : k < 24) {off : Fin 3 → Nat} (hoff : off = ![base i + k, b * 112, 0])
    (h : ∀ a, off a + S1x112x224.size a ≤ S768x224x224.size a) :
    (iprop(outSlot d i b (RowsDone X (base i + k) b 56 0) ∗ outHalf i X d b k ∗ semVal (thr d i, SemLoc.dma (semOut hb)) 0) : sProp 𝕄)
      ⊢ wpT d i (startOut i hb off h) fun _ => Flight (EC (F := F)) (thr d i) (.dma (semOut hb)) none NO
          iprop(outSlot d i b (ZeroDone b 56 0) ∗ outHalf i X d b (k + 1)) := by
  unfold startOut outSlot outHalf
  simp only [Prog.lift]
  iintro ⟨⟨%f, %hf, HI⟩, ⟨%g, %hg, HG⟩, HS⟩
  have e : slotS b = (sOut hb).view.set := Finset.Subset.antisymm (slotS_subset hb) (sOut_subset hb)
  iapply wp_dmaLocal EC 𝒱₀ (thr d i) none (src := sOut hb) (dst := gOut off h) (none : HIx 1) NO rfl NO_pos (gOut_subset hoff h hk) $$ [HI HG HS]
  · isplitl [HI]
    · rw [e]; iexact HI
    isplitl [HG]; · iexact HG
    iexact HS
  iintro HF
  rw [wp_ret]
  imodintro
  iapply Flight_mono EC (thr d i) ?_ $$ HF
  iintro ⟨HG, HI⟩
  isplitl [HI]
  · iexists f
    isplitr [HI]
    · ipureintro; exact hf.1
    · rw [e]; iexact HI
  · iexists _
    isplitr [HG]
    · ipureintro
      exact writeOut_holds X i hb hoff h f hf g hg
    · iexact HG

theorem waitOut_wp {b : ℕ} (hb : b < 2) {off : Fin 3 → Nat} (h : ∀ a, off a + S1x112x224.size a ≤ S768x224x224.size a) (R : sProp 𝕄)
    (O : CellTallies nD τ sig (HIx 1)) (W : Waits sig (HIx 1)) :
    (iprop(Flight (EC (F := F)) (thr d i) (.dma (semOut hb)) none NO R ∗ ow i d O W) : sProp 𝕄)
      ⊢ wpT d i (waitOut i hb off h) fun _ => iprop(R ∗ semVal (thr d i, SemLoc.dma (semOut hb)) 0 ∗ ow i d O W) := by
  unfold waitOut ow
  simp only [Prog.lift]
  iintro ⟨HF, ⟨%W', %hW, HO⟩, #Hm⟩
  iapply wp_waitLocalO EC 𝒱₀ (thr d i) none (none : HIx 1) (N := NO) rfl $$ [HF HO]
  · isplitl [HF]; · iexact HF
    isplitl [HO]; · iexact HO
    iapply MayWaits.elim (SemLoc.dma (semOut hb)) $$ Hm
  iintro ⟨HR, HS, HO⟩
  rw [wp_ret]
  imodintro
  isplitl [HR]; · iexact HR
  isplitl [HS]; · iexact HS
  isplitl [HO]
  · iexists (insert (SemLoc.dma (semOut hb), none) W')
    isplitr [HO]
    · ipureintro
      intro p hp'
      rcases Finset.mem_insert.mp hp' with rfl | hp'
      · exact .inr rfl
      · exact hW p hp'
    · iexact HO
  · iexact Hm

end Cert.Proof.Unpool
-- ==== Proof.Loops.lean ====
/-
  The row loops: fifty-six zero rows clear a staged half's odd rows, fifty-six rows fill its even ones.
-/
module

public import proofs.«01_k».proof.Proof.Rows

@[expose] public section

noncomputable section

namespace Cert.Proof.Unpool

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MM F

variable (X : S768x112x112.Idx → Elt F .f32) (d : Dev nD) (i : grid0.Coords)

/-- A loop of fifty-six zero rows zeroes every odd row of slot `b`. -/
theorem zeroLoop_wp {b : ℕ} (hb : b < 2) (l : Scf.Loop 32) (hok : l.OK) (htr : l.trips = 56) (ht : ∀ t : Fin l.trips, t.val < 56)
    (body : Fin l.trips → Unit → TileProg F i Unit) (o : ∀ t : Fin l.trips, ZeroOffs b t.val)
    (heq : ∀ t u, body t u = zeroProg i hb (ht t) (o t) (k0_pay57 (F := F))) :
    (outSlot d i b (fun _ => True) : sProp 𝕄)
      ⊢ wpT d i (Scf.Loop.for l hok ⟨⟩ body) fun _ => outSlot d i b (ZeroDone b 56 0) := by
  refine (outSlot_mono d i fun f _ => zero_start b f).trans (BIBase.Entails.trans ?_
    (Scf.wp_for _ _ _ l.lb l.ub l.st hok ⟨⟩ body (fun n _ => outSlot d i b (ZeroDone b n 0)) fun t u => ?_))
  · iintro H
    isplitl [H]
    · iexact H
    · iintro %u H
      rw [show Scf.trips l.lb l.ub l.st = 56 from htr]
      iexact H
  · rw [heq]
    exact zeroRow_wp d i hb (ht t) (o t)

/-- A loop of fifty-six rows fills slot `b` with half `b` of the image in slot `p`, unpooled. -/
theorem fillLoop_wp {p b : ℕ} (hp : p < 2) (hb : b < 2) (n0 : ℕ) (l : Scf.Loop 32) (hok : l.OK) (htr : l.trips = 56) (ht : ∀ t : Fin l.trips, t.val < 56)
    (body : Fin l.trips → Unit → TileProg F i Unit) (o : ∀ t : Fin l.trips, RowOffs p b t.val)
    (hv : ∀ a x, ((![k0_pay58] : Fin 1 → IVec S16 32) a x).toNat < S16.size a)
    (hw : ∀ a x, ((![k0_pay59 k0_pay58] : Fin 1 → IVec S16 32) a x).toNat < S16.size a)
    (heq : ∀ t u, body t u = rowProg i hp hb (ht t) (o t) k0_pay58 hv (k0_pay59 k0_pay58) hw k0_pay60) :
    (iprop(inSlot X d i p n0 ∗ outSlot d i b (ZeroDone b 56 0)) : sProp 𝕄)
      ⊢ wpT d i (Scf.Loop.for l hok ⟨⟩ body) fun _ => iprop(inSlot X d i p n0 ∗ outSlot d i b (RowsDone X n0 b 56 0)) := by
  refine (sep_mono_right (outSlot_mono d i fun f h => row_start (X := X) (n0 := n0) h)).trans (BIBase.Entails.trans ?_
    (Scf.wp_for _ _ _ l.lb l.ub l.st hok ⟨⟩ body (fun n _ => iprop(inSlot X d i p n0 ∗ outSlot d i b (RowsDone X n0 b n 0))) fun t u => ?_))
  · iintro H
    isplitl [H]
    · iexact H
    · iintro %u H
      rw [show Scf.trips l.lb l.ub l.st = 56 from htr]
      iexact H
  · rw [heq]
    exact row_wp X d i hp hb (ht t) n0 (o t) hv hw

end Cert.Proof.Unpool
-- ==== Proof.Bodies.lean ====
/-
  The kernel's six row loops' bodies are the row programs: two zeroing loops, and one filling loop for each staged input
  slot and each half of the image.
-/
module

public import proofs.«01_k».proof.Proof.Rows

@[expose] public section

noncomputable section

namespace Cert.Proof.Unpool

open Cert.KernelIdeal Cert.KernelIdeal.Gen
open Idealize.ShloMosaic
open Idealize.SL.Sem

variable {F : FTy → Type} [FloatOps F]

def offs1 (t : Fin k0_t1_loop.trips) : ZeroOffs 0 t.val where
  out := ![k0_off3 t, k0_off4 t, k0_off5 t, k0_off6 t, k0_off7 t, k0_off8 t, k0_off9 t, k0_off10 t, k0_off11 t, k0_off12 t,
    k0_off13 t, k0_off14 t, k0_off15 t, k0_off16 t]
  hout := by revert t; decide +kernel

def offs2 (t : Fin k0_t2_loop.trips) : ZeroOffs 1 t.val where
  out := ![k0_off17 t, k0_off18 t, k0_off19 t, k0_off20 t, k0_off21 t, k0_off22 t, k0_off23 t, k0_off24 t, k0_off25 t, k0_off26 t,
    k0_off27 t, k0_off28 t, k0_off29 t, k0_off30 t]
  hout := by revert t; decide +kernel

def offs4 (t : Fin k0_t4_loop.trips) : RowOffs 0 0 t.val where
  inL := ![k0_off33 t, k0_off37 t, k0_off40 t, k0_off43 t, k0_off46 t, k0_off49 t, k0_off52 t]
  inH := ![k0_off35 t, k0_off37 t, k0_off40 t, k0_off43 t, k0_off46 t, k0_off49 t, k0_off52 t]
  outL := ![k0_off34 t, k0_off38 t, k0_off41 t, k0_off44 t, k0_off47 t, k0_off50 t, k0_off53 t]
  outH := ![k0_off36 t, k0_off39 t, k0_off42 t, k0_off45 t, k0_off48 t, k0_off51 t, k0_off54 t]
  hinL := by revert t; decide +kernel
  hinH := by revert t; decide +kernel
  houtL := by revert t; decide +kernel
  houtH := by revert t; decide +kernel

def offs5 (t : Fin k0_t5_loop.trips) : RowOffs 0 1 t.val where
  inL := ![k0_off57 t, k0_off60 t, k0_off63 t, k0_off66 t, k0_off69 t, k0_off72 t, k0_off75 t]
  inH := ![k0_off57 t, k0_off60 t, k0_off63 t, k0_off66 t, k0_off69 t, k0_off72 t, k0_off75 t]
  outL := ![k0_off58 t, k0_off61 t, k0_off64 t, k0_off67 t, k0_off70 t, k0_off73 t, k0_off76 t]
  outH := ![k0_off59 t, k0_off62 t, k0_off65 t, k0_off68 t, k0_off71 t, k0_off74 t, k0_off77 t]
  hinL := by revert t; decide +kernel
  hinH := by revert t; decide +kernel
  houtL := by revert t; decide +kernel
  houtH := by revert t; decide +kernel

def offs6 (t : Fin k0_t6_loop.trips) : RowOffs 1 0 t.val where
  inL := ![k0_off82 t, k0_off85 t, k0_off88 t, k0_off91 t, k0_off94 t, k0_off97 t, k0_off100 t]
  inH := ![k0_off82 t, k0_off85 t, k0_off88 t, k0_off91 t, k0_off94 t, k0_off97 t, k0_off100 t]
  outL := ![k0_off83 t, k0_off86 t, k0_off89 t, k0_off92 t, k0_off95 t, k0_off98 t, k0_off101 t]
  outH := ![k0_off84 t, k0_off87 t, k0_off90 t, k0_off93 t, k0_off96 t, k0_off99 t, k0_off102 t]
  hinL := by revert t; decide +kernel
  hinH := by revert t; decide +kernel
  houtL := by revert t; decide +kernel
  houtH := by revert t; decide +kernel

def offs7 (t : Fin k0_t7_loop.trips) : RowOffs 1 1 t.val where
  inL := ![k0_off104 t, k0_off107 t, k0_off110 t, k0_off113 t, k0_off116 t, k0_off119 t, k0_off122 t]
  inH := ![k0_off104 t, k0_off107 t, k0_off110 t, k0_off113 t, k0_off116 t, k0_off119 t, k0_off122 t]
  outL := ![k0_off105 t, k0_off108 t, k0_off111 t, k0_off114 t, k0_off117 t, k0_off120 t, k0_off123 t]
  outH := ![k0_off106 t, k0_off109 t, k0_off112 t, k0_off115 t, k0_off118 t, k0_off121 t, k0_off124 t]
  hinL := by revert t; decide +kernel
  hinH := by revert t; decide +kernel
  houtL := by revert t; decide +kernel
  houtH := by revert t; decide +kernel

theorem trips1 (t : Fin k0_t1_loop.trips) : t.val < 56 := t.isLt
theorem trips2 (t : Fin k0_t2_loop.trips) : t.val < 56 := t.isLt
theorem trips4 (t : Fin k0_t4_loop.trips) : t.val < 56 := t.isLt
theorem trips5 (t : Fin k0_t5_loop.trips) : t.val < 56 := t.isLt
theorem trips6 (t : Fin k0_t6_loop.trips) : t.val < 56 := t.isLt
theorem trips7 (t : Fin k0_t7_loop.trips) : t.val < 56 := t.isLt

variable (i : grid0.Coords)

theorem body1_eq (t : Fin k0_t1_loop.trips) (u : Unit) :
    k0_t1_body (F := F) i mX (Memref.isWhole_whole _) mO (Memref.isWhole_whole _) mI (Memref.isWhole_whole _) mS (Memref.isWhole_whole _)
        cc0_scratch2 cc0_scratch3 t u
      = zeroProg i (by decide) (trips1 t) (offs1 t) (k0_pay57 (F := F)) := rfl

theorem body4_eq (v2 : BitVec 32) (v29 : IVec S16 32) (h1 : k0_chk1 v29) (v31 : IVec S16 32) (h2 : k0_chk2 v31) (v35 : IVec S16 1)
    (c30 c31 : BitVec 32) (t3 : Fin k0_t3_loop.trips) (t : Fin k0_t4_loop.trips) (u : Unit) :
    k0_t4_body (F := F) i mX (Memref.isWhole_whole _) mO (Memref.isWhole_whole _) mI (Memref.isWhole_whole _) mS (Memref.isWhole_whole _)
        cc0_scratch2 cc0_scratch3 v2 v29 h1 v31 h2 v35 c30 c31 t3 t u
      = rowProg i (by decide) (by decide) (trips4 t) (offs4 t) v29 (k0_idx1_inb v29 h1) v31 (k0_idx2_inb v31 h2) v35 := rfl

theorem body2_eq (v2 : BitVec 32) (c22 : BitVec 32) (t : Fin k0_t2_loop.trips) (u : Unit) :
    k0_t2_body (F := F) i mX (Memref.isWhole_whole _) mO (Memref.isWhole_whole _) mI (Memref.isWhole_whole _) mS (Memref.isWhole_whole _)
        cc0_scratch2 cc0_scratch3 v2 (k0_pay57 (F := F)) c22 t u
      = zeroProg i (by decide) (trips2 t) (offs2 t) (k0_pay57 (F := F)) := rfl

section Fill

variable (v29 : IVec S16 32) (h1 : k0_chk1 v29) (v31 : IVec S16 32) (h2 : k0_chk2 v31) (v35 : IVec S16 1) (t3 : Fin k0_t3_loop.trips)

theorem body5_eq (v2 arg8 v63 v64 : BitVec 32) (t : Fin k0_t5_loop.trips) (u : Unit) :
    k0_t5_body (F := F) i mX (Memref.isWhole_whole _) mO (Memref.isWhole_whole _) mI (Memref.isWhole_whole _) mS (Memref.isWhole_whole _)
        cc0_scratch2 cc0_scratch3 v2 v29 h1 v31 h2 v35 t3 arg8 v63 v64 t u
      = rowProg i (by decide) (by decide) (trips5 t) (offs5 t) v29 (k0_idx1_inb v29 h1) v31 (k0_idx2_inb v31 h2) v35 := rfl

theorem body6_eq (v107 v108 : BitVec 32) (t : Fin k0_t6_loop.trips) (u : Unit) :
    k0_t6_body (F := F) i mX (Memref.isWhole_whole _) mO (Memref.isWhole_whole _) mI (Memref.isWhole_whole _) mS (Memref.isWhole_whole _)
        cc0_scratch2 cc0_scratch3 v29 h1 v31 h2 v35 t3 v107 v108 t u
      = rowProg i (by decide) (by decide) (trips6 t) (offs6 t) v29 (k0_idx1_inb v29 h1) v31 (k0_idx2_inb v31 h2) v35 := rfl

theorem body7_eq (v107 v108 : BitVec 32) (t : Fin k0_t7_loop.trips) (u : Unit) :
    k0_t7_body (F := F) i mX (Memref.isWhole_whole _) mO (Memref.isWhole_whole _) mI (Memref.isWhole_whole _) mS (Memref.isWhole_whole _)
        cc0_scratch2 cc0_scratch3 v29 h1 v31 h2 v35 t3 v107 v108 t u
      = rowProg i (by decide) (by decide) (trips7 t) (offs7 t) v29 (k0_idx1_inb v29 h1) v31 (k0_idx2_inb v31 h2) v35 := rfl

end Fill

end Cert.Proof.Unpool
-- ==== Proof.Trip.lean ====
/-
  One trip of the kernel's image loop: two images, each fetched slot turned into two written-out halves, each slot's copy
  waited for before the slot is used again.
-/
module

public import proofs.«01_k».proof.Proof.Dma
public import proofs.«01_k».proof.Proof.Loops
public import proofs.«01_k».proof.Proof.Bodies

@[expose] public section

noncomputable section

namespace Cert.Proof.Unpool

open Cert.KernelIdeal Cert.KernelIdeal.Gen
open Idealize.ShloMosaic Idealize.ShloMosaic.Transfers
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MM F

variable (d : Dev nD) (i : grid0.Coords)

/-- A program's triple, with what runs after it. -/
theorem seq_wp {A B : Type} {P : sProp 𝕄} {p : TileProg F i A} {Q : A → sProp 𝕄} (h : P ⊢ wpT d i p Q) (k : A → TileProg F i B) (S : B → sProp 𝕄) :
    P ⊢ iprop((∀ a, Q a -∗ wpT d i (k a) S) -∗ wpT d i (p >>= k) S) := by
  unfold wpT at *
  rw [wp_bind]
  iintro HP HK
  iapply wp_wand _ _ _ $$ [HP]
  · iapply h $$ HP
  iexact HK

variable (X : S768x112x112.Idx → Elt F .f32)

/-! ## The slots between copies -/

/-- Slot `p` with image `n` and a share of the input: what a fetch delivers. -/
def inRes (p n : ℕ) (q : PosShare TreeShare) : sProp 𝕄 := iprop(inSlot X d i p n ∗ xShare i X d q)

/-- Slot `p` at rest. -/
def inIdle {p : ℕ} (hp : p < 2) (q : PosShare TreeShare) : sProp 𝕄 :=
  iprop((∃ f : Buf (Elt F) (mI.view.loc (thr d i)), mI.view.loc (thr d i) ↦[slotI p]{fullShare} f) ∗ xShare i X d q
    ∗ semVal (thr d i, SemLoc.dma (semIn hp)) 0)

/-- Slot `p` before image `n` is waited for: the fetch is in flight while the tile has an image `n`. -/
def inState {p : ℕ} (hp : p < 2) (n : ℕ) (q : PosShare TreeShare) : sProp 𝕄 :=
  if n < base i + 24 then Flight (EC (F := F)) (thr d i) (.dma (semIn hp)) none NI (inRes d i X p n q) else inIdle d i X hp q

/-- Slot `b` with its odd rows zero and the first `k` images' half `b` written: what a write-out delivers. -/
def outRes (b k : ℕ) : sProp 𝕄 := iprop(outSlot d i b (ZeroDone b 56 0) ∗ outHalf i X d b k)

/-- Slot `b` at rest. -/
def outIdle {b : ℕ} (hb : b < 2) (k : ℕ) : sProp 𝕄 := iprop(outRes d i X b k ∗ semVal (thr d i, SemLoc.dma (semOut hb)) 0)

/-- Slot `b` after `k` images were handed out: the last write-out is in flight once there was one. -/
def outState {b : ℕ} (hb : b < 2) (k : ℕ) : sProp 𝕄 :=
  if k = 0 then outIdle d i X hb k else Flight (EC (F := F)) (thr d i) (.dma (semOut hb)) none NO (outRes d i X b k)

/-! ## The guarded operations -/

/-- Wait for slot `b`'s write-out if `c`. -/
def waitOutIf {b : ℕ} (hb : b < 2) (c : BitVec 1) (off : Fin 3 → Nat) (h : c = 1#1 → ∀ a, off a + S1x112x224.size a ≤ S768x224x224.size a) : TileProg F i PUnit :=
  if hc : c = 1#1 then do waitOut i hb off (h hc); pure ⟨⟩ else pure ⟨⟩

/-- Start a fetch into slot `p` if `c`. -/
def startInIf {p : ℕ} (hp : p < 2) (c : BitVec 1) (off : Fin 3 → Nat) (h : c = 1#1 → ∀ a, off a + S1x112x112.size a ≤ S768x112x112.size a) : TileProg F i PUnit :=
  if hc : c = 1#1 then do startIn i hp off (h hc); pure ⟨⟩ else pure ⟨⟩

variable (O : CellTallies nD τ sig (HIx 1)) (W : Waits sig (HIx 1))

theorem waitOutIf_wp {b k : ℕ} (hb : b < 2) {c : BitVec 1} (hck : c = 1#1 ↔ k ≠ 0) (off : Fin 3 → Nat)
    (h : c = 1#1 → ∀ a, off a + S1x112x224.size a ≤ S768x224x224.size a) :
    (iprop(outState d i X hb k ∗ ow i d O W) : sProp 𝕄)
      ⊢ wpT d i (waitOutIf i hb c off h) fun _ => iprop(outIdle d i X hb k ∗ ow i d O W) := by
  unfold outState waitOutIf
  by_cases hc : c = 1#1
  · rw [dif_pos hc, if_neg (hck.mp hc)]
    iintro H
    iapply seq_wp d i (waitOut_wp i d hb (h hc) _ O W) $$ H
    iintro %_ ⟨HR, HS, HO⟩
    unfold wpT outIdle
    rw [Prog.pure_eq_ret, wp_ret]
    imodintro
    isplitl [HR HS]
    · isplitl [HR] <;> iassumption
    · iexact HO
  · rw [dif_neg hc, if_pos (by_contra fun hk => hc (hck.mpr hk))]
    unfold wpT
    rw [Prog.pure_eq_ret, wp_ret]
    exact fupd_intro

theorem startInIf_wp {p n : ℕ} (hp : p < 2) {c : BitVec 1} (hcn : c = 1#1 ↔ n < base i + 24) {off : Fin 3 → Nat} (hoff : off = ![n, 0, 0])
    (h : c = 1#1 → ∀ a, off a + S1x112x112.size a ≤ S768x112x112.size a) (q : PosShare TreeShare) :
    (inIdle d i X hp q : sProp 𝕄) ⊢ wpT d i (startInIf i hp c off h) fun _ => inState d i X hp n q := by
  unfold inState startInIf
  by_cases hc : c = 1#1
  · rw [dif_pos hc, if_pos (hcn.mp hc)]
    unfold inIdle
    iintro ⟨⟨%f, Hf⟩, HX, HS⟩
    iapply seq_wp d i (startIn_wp i X d hp hoff (h hc) q f) $$ [Hf HX HS]
    · isplitl [Hf]; · iexact Hf
      isplitl [HX] <;> iassumption
    iintro %_ HF
    unfold wpT inRes
    rw [Prog.pure_eq_ret, wp_ret]
    imodintro
    iexact HF
  · rw [dif_neg hc, if_neg fun hn => hc (hcn.mpr hn)]
    unfold wpT
    rw [Prog.pure_eq_ret, wp_ret]
    exact fupd_intro

/-- Waiting for a fetch that was started. -/
theorem fetched_wp {p n : ℕ} (hp : p < 2) (hn : n < base i + 24) (off : Fin 3 → Nat) (h : ∀ a, off a + S1x112x112.size a ≤ S768x112x112.size a) (q : PosShare TreeShare) :
    (iprop(inState d i X hp n q ∗ ow i d O W) : sProp 𝕄)
      ⊢ wpT d i (waitIn i hp off h) fun _ => iprop(inRes d i X p n q ∗ semVal (thr d i, SemLoc.dma (semIn hp)) 0 ∗ ow i d O W) := by
  unfold inState
  rw [if_pos hn]
  exact waitIn_wp i d hp h _ O W

/-- Handing a filled slot out. -/
theorem handOut_wp {b k : ℕ} (hb : b < 2) (hk : k < 24) {off : Fin 3 → Nat} (hoff : off = ![base i + k, b * 112, 0])
    (h : ∀ a, off a + S1x112x224.size a ≤ S768x224x224.size a) :
    (iprop(outSlot d i b (RowsDone X (base i + k) b 56 0) ∗ outHalf i X d b k ∗ semVal (thr d i, SemLoc.dma (semOut hb)) 0) : sProp 𝕄)
      ⊢ wpT d i (startOut i hb off h) fun _ => outState d i X hb (k + 1) := by
  unfold outState
  rw [if_neg (Nat.succ_ne_zero k)]
  exact startOut_wp i X d hb hk hoff h

/-! ## The trip's parts -/

theorem trips3 (t : Fin k0_t3_loop.trips) : t.val < 12 := t.isLt

/-- Which trips take which guard. -/
theorem cond1_iff (t : Fin k0_t3_loop.trips) : k0_cond1 t = 1#1 ↔ 2 * t.val ≠ 0 := by revert t; decide +kernel
theorem cond2_iff (t : Fin k0_t3_loop.trips) : k0_cond2 t = 1#1 ↔ 2 * t.val ≠ 0 := by revert t; decide +kernel
theorem cond3_iff (t : Fin k0_t3_loop.trips) : k0_cond3 t = 1#1 ↔ 2 * t.val + 2 < 24 := by revert t; decide +kernel
theorem cond4_iff (t : Fin k0_t3_loop.trips) : k0_cond4 t = 1#1 ↔ 2 * t.val + 1 ≠ 0 := by revert t; decide +kernel
theorem cond5_iff (t : Fin k0_t3_loop.trips) : k0_cond5 t = 1#1 ↔ 2 * t.val + 1 ≠ 0 := by revert t; decide +kernel
theorem cond6_iff (t : Fin k0_t3_loop.trips) : k0_cond6 t = 1#1 ↔ 2 * t.val + 3 < 24 := by revert t; decide +kernel

/-- An offset of a plane, its first coordinate counted from the tile's first image. -/
theorem off_base {off : Fin 3 → Nat} {a k v w : ℕ} (h : off = ![48 * (i 1).val + 24 * (i 0).val + a, v, 0]) (hk : a = k) (hv : v = w) :
    off = ![base i + k, w, 0] := by subst hk hv; exact h

section Parts

variable (v2 : BitVec 32) (v29 : IVec S16 32) (h1 : k0_chk1 v29) (v31 : IVec S16 32) (h2 : k0_chk2 v31) (v35 : IVec S16 1) (t : Fin k0_t3_loop.trips)

theorem part17_eq (c30 c31 : BitVec 32) :
    k0_part17 (F := F) i mX (Memref.isWhole_whole _) mO (Memref.isWhole_whole _) mI (Memref.isWhole_whole _) mS (Memref.isWhole_whole _) cc0_scratch2 cc0_scratch3 v2 v29 h1 v31 h2 v35 c30 c31 t
      = (do
        waitIn i (p := 0) (by decide) (k0_off31 i t) (k0_off31_inb i t)
        waitOutIf i (b := 0) (by decide) (k0_cond1 t) (k0_off32 i t) (k0_off32_inb i t)
        Scf.Loop.for k0_t4_loop k0_t4_ok ⟨⟩ (k0_t4_body i mX (Memref.isWhole_whole _) mO (Memref.isWhole_whole _) mI (Memref.isWhole_whole _) mS (Memref.isWhole_whole _) cc0_scratch2 cc0_scratch3 v2 v29 h1 v31 h2 v35 c30 c31 t)
        startOut i (b := 0) (by decide) (k0_off55 i t 0#32) (k0_off55_inb i t 0)
        pure ⟨Scf.iv c30 c31 t, Scalar.addi (Scalar.muli 2#32 (Scf.iv c30 c31 t)) 0#32, Scalar.addi v2 (Scalar.addi (Scalar.muli 2#32 (Scf.iv c30 c31 t)) 0#32)⟩) := by
  rw [k0_part17_eq_skeleton]
  unfold k0_part17_skel waitOutIf
  by_cases h : k0_cond1 t = 1#1
  · simp only [dif_pos h]
    rfl
  · simp only [dif_neg h]
    rfl

theorem part18_eq (arg8 v63 v64 : BitVec 32) :
    k0_part18 (F := F) i mX (Memref.isWhole_whole _) mO (Memref.isWhole_whole _) mI (Memref.isWhole_whole _) mS (Memref.isWhole_whole _) cc0_scratch2 cc0_scratch3 v2 v29 h1 v31 h2 v35 t arg8 v63 v64
      = (do
        waitOutIf i (b := 1) (by decide) (k0_cond2 t) (k0_off56 i t) (k0_off56_inb i t)
        Scf.Loop.for k0_t5_loop k0_t5_ok ⟨⟩ (k0_t5_body i mX (Memref.isWhole_whole _) mO (Memref.isWhole_whole _) mI (Memref.isWhole_whole _) mS (Memref.isWhole_whole _) cc0_scratch2 cc0_scratch3 v2 v29 h1 v31 h2 v35 t arg8 v63 v64)
        startOut i (b := 1) (by decide) (k0_off78 i t 0#32) (k0_off78_inb i t 0)
        startInIf i (p := 0) (by decide) (k0_cond3 t) (k0_off79 i t) (k0_off79_inb i t)
        pure ⟨Scalar.addi (Scalar.muli 2#32 arg8) 1#32, Scalar.addi v2 (Scalar.addi (Scalar.muli 2#32 arg8) 1#32)⟩) := by
  rw [k0_part18_eq_skeleton]
  unfold k0_part18_skel waitOutIf startInIf
  by_cases h : k0_cond2 t = 1#1 <;> by_cases h' : k0_cond3 t = 1#1
  · simp only [dif_pos h, dif_pos h']
    rfl
  · simp only [dif_pos h, dif_neg h']
    rfl
  · simp only [dif_neg h, dif_pos h']
    rfl
  · simp only [dif_neg h, dif_neg h']
    rfl

theorem part19_eq (v107 v108 : BitVec 32) :
    k0_part19 (F := F) i mX (Memref.isWhole_whole _) mO (Memref.isWhole_whole _) mI (Memref.isWhole_whole _) mS (Memref.isWhole_whole _) cc0_scratch2 cc0_scratch3 v29 h1 v31 h2 v35 t v107 v108
      = (do
        waitIn i (p := 1) (by decide) (k0_off80 i t) (k0_off80_inb i t)
        waitOutIf i (b := 0) (by decide) (k0_cond4 t) (k0_off81 i t) (k0_off81_inb i t)
        Scf.Loop.for k0_t6_loop k0_t6_ok ⟨⟩ (k0_t6_body i mX (Memref.isWhole_whole _) mO (Memref.isWhole_whole _) mI (Memref.isWhole_whole _) mS (Memref.isWhole_whole _) cc0_scratch2 cc0_scratch3 v29 h1 v31 h2 v35 t v107 v108)
        startOut i (b := 0) (by decide) (k0_off55 i t 1#32) (k0_off55_inb i t 1)
        waitOutIf i (b := 1) (by decide) (k0_cond5 t) (k0_off103 i t) (k0_off103_inb i t)
        Scf.Loop.for k0_t7_loop k0_t7_ok ⟨⟩ (k0_t7_body i mX (Memref.isWhole_whole _) mO (Memref.isWhole_whole _) mI (Memref.isWhole_whole _) mS (Memref.isWhole_whole _) cc0_scratch2 cc0_scratch3 v29 h1 v31 h2 v35 t v107 v108)
        pure ⟨⟩) := by
  rw [k0_part19_eq_skeleton]
  unfold k0_part19_skel waitOutIf
  by_cases h : k0_cond4 t = 1#1 <;> by_cases h' : k0_cond5 t = 1#1
  · simp only [dif_pos h, dif_pos h']
    rfl
  · simp only [dif_pos h, dif_neg h']
    rfl
  · simp only [dif_neg h, dif_pos h']
    rfl
  · simp only [dif_neg h, dif_neg h']
    rfl

theorem body3_eq (v24 : FVec F S16 .f32) (c22 arg9 : BitVec 32) :
    k0_t3_body (F := F) i mX (Memref.isWhole_whole _) mO (Memref.isWhole_whole _) mI (Memref.isWhole_whole _) mS (Memref.isWhole_whole _) cc0_scratch2 cc0_scratch3 v2 v24 c22 v29 h1 v31 h2 t arg9
      = (do
        let r ← k0_part17 i mX (Memref.isWhole_whole _) mO (Memref.isWhole_whole _) mI (Memref.isWhole_whole _) mS (Memref.isWhole_whole _) cc0_scratch2 cc0_scratch3 v2 v29 h1 v31 h2 k0_pay60 0#32 1#32 t
        let s ← k0_part18 i mX (Memref.isWhole_whole _) mO (Memref.isWhole_whole _) mI (Memref.isWhole_whole _) mS (Memref.isWhole_whole _) cc0_scratch2 cc0_scratch3 v2 v29 h1 v31 h2 k0_pay60 t r.1 r.2.1 r.2.2
        k0_part19 i mX (Memref.isWhole_whole _) mO (Memref.isWhole_whole _) mI (Memref.isWhole_whole _) mS (Memref.isWhole_whole _) cc0_scratch2 cc0_scratch3 v29 h1 v31 h2 k0_pay60 t s.1 s.2
        startOut i (b := 1) (by decide) (k0_off78 i t 1#32) (k0_off78_inb i t 1)
        startInIf i (p := 1) (by decide) (k0_cond6 t) (k0_off125 i t) (k0_off125_inb i t)
        pure 0#32) := by
  unfold k0_t3_body startInIf
  by_cases h : k0_cond6 t = 1#1
  · simp only [dif_pos h]
    rfl
  · simp only [dif_neg h]
    rfl

end Parts

end Cert.Proof.Unpool
-- ==== Proof.Steps.lean ====
/-
  What one trip of the kernel's image loop does: with `2 t` images handed out it hands out two more, their halves unpooled.
-/
module

public import proofs.«01_k».proof.Proof.Trip

@[expose] public section

noncomputable section

namespace Cert.Proof.Unpool

open Cert.KernelIdeal Cert.KernelIdeal.Gen
open Idealize.ShloMosaic Idealize.ShloMosaic.Transfers
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MM F

variable (X : S768x112x112.Idx → Elt F .f32) (d : Dev nD) (i : grid0.Coords) (O : CellTallies nD τ sig (HIx 1)) (W : Waits sig (HIx 1))

/-- Slot `b` filled with the image in slot `p`, once its last write-out is done. -/
theorem refill_wp {A : Type} {p b k : ℕ} (hb : b < 2) {c : BitVec 1} (hck : c = 1#1 ↔ k ≠ 0) (off : Fin 3 → Nat)
    (h : c = 1#1 → ∀ a, off a + S1x112x224.size a ≤ S768x224x224.size a) {f : TileProg F i Unit}
    (hf : (iprop(inSlot X d i p (base i + k) ∗ outSlot d i b (ZeroDone b 56 0)) : sProp 𝕄)
      ⊢ wpT d i f fun _ => iprop(inSlot X d i p (base i + k) ∗ outSlot d i b (RowsDone X (base i + k) b 56 0)))
    (K : TileProg F i A) (S : A → sProp 𝕄) :
    (iprop(inSlot X d i p (base i + k) ∗ outState d i X hb k ∗ ow i d O W) : sProp 𝕄)
      ⊢ iprop((inSlot X d i p (base i + k) ∗ (outSlot d i b (RowsDone X (base i + k) b 56 0) ∗ outHalf i X d b k
            ∗ semVal (thr d i, SemLoc.dma (semOut hb)) 0) ∗ ow i d O W -∗ wpT d i K S)
          -∗ wpT d i (waitOutIf i hb c off h >>= fun _ => f >>= fun _ => K) S) := by
  iintro ⟨HI, HO, Hw⟩ HK
  iapply seq_wp d i (waitOutIf_wp d i X O W hb hck off h) $$ [HO Hw]
  · isplitl [HO] <;> iassumption
  iintro %_ ⟨HO, Hw⟩
  unfold outIdle outRes
  icases HO with ⟨⟨HZ, HH⟩, HS⟩
  iapply seq_wp d i hf $$ [HI HZ]
  · isplitl [HI] <;> iassumption
  iintro %_ ⟨HI, HR⟩
  iapply HK
  isplitl [HI]; · iexact HI
  isplitr [Hw]
  · isplitl [HR]; · iexact HR
    isplitl [HH] <;> iassumption
  · iexact Hw

/-- Slot `p` fetched, its fetch's semaphore at rest. -/
def fetched {p : ℕ} (hp : p < 2) (n : ℕ) (q : PosShare TreeShare) : sProp 𝕄 :=
  iprop(inSlot X d i p n ∗ xShare i X d q ∗ semVal (thr d i, SemLoc.dma (semIn hp)) 0)

theorem fetched_idle {p : ℕ} (hp : p < 2) (n : ℕ) (q : PosShare TreeShare) : fetched X d i hp n q ⊢ inIdle d i X hp q := by
  unfold fetched inIdle inSlot
  iintro ⟨⟨%f, -, Hf⟩, HX⟩
  isplitl [Hf]
  · iexists f; iexact Hf
  · iexact HX

variable (t : Fin k0_t3_loop.trips) (q : PosShare TreeShare)

theorem part17_wp (v2 c30 c31 : BitVec 32) :
    (iprop(inState d i X (p := 0) (by decide) (base i + 2 * t.val) q ∗ outState d i X (b := 0) (by decide) (2 * t.val) ∗ ow i d O W) : sProp 𝕄)
      ⊢ wpT d i (k0_part17 (F := F) i mX (Memref.isWhole_whole _) mO (Memref.isWhole_whole _) mI (Memref.isWhole_whole _) mS (Memref.isWhole_whole _) cc0_scratch2 cc0_scratch3 v2 k0_pay58 chk1 (k0_pay59 k0_pay58) chk2 k0_pay60 c30 c31 t)
        fun _ => iprop(fetched X d i (p := 0) (by decide) (base i + 2 * t.val) q ∗ outState d i X (b := 0) (by decide) (2 * t.val + 1) ∗ ow i d O W) := by
  have ht := trips3 t
  have hk : 2 * t.val < 24 := by omega
  have hn : base i + 2 * t.val < base i + 24 := by omega
  rw [part17_eq]
  iintro ⟨HI, HO, Hw⟩
  iapply seq_wp d i (fetched_wp d i X O W (p := 0) (n := base i + 2 * t.val) Nat.zero_lt_two hn _ _ q) $$ [HI Hw]
  · isplitl [HI] <;> iassumption
  iintro %_ ⟨HI, HS, Hw⟩
  unfold inRes
  icases HI with ⟨HI, HX⟩
  iapply refill_wp X d i O W (p := 0) (b := 0) (k := 2 * t.val) Nat.zero_lt_two (cond1_iff t) _ _
    (fillLoop_wp X d i (p := 0) (b := 0) Nat.zero_lt_two Nat.zero_lt_two (base i + (2 * t.val)) k0_t4_loop k0_t4_ok rfl trips4 _ offs4 (k0_idx1_inb _ chk1) (k0_idx2_inb _ chk2) fun r u => body4_eq i v2 k0_pay58 chk1 (k0_pay59 k0_pay58) chk2 k0_pay60 c30 c31 t r u) $$ [HI HO Hw]
  · isplitl [HI]; · iexact HI
    isplitl [HO] <;> iassumption
  iintro ⟨HI, HO, Hw⟩
  iapply seq_wp d i (handOut_wp d i X (b := 0) (k := 2 * t.val) Nat.zero_lt_two hk (off_base i (k0_off55_eq i t 0) rfl rfl) _) $$ HO
  iintro %_ HO
  unfold wpT fetched
  rw [Prog.pure_eq_ret, wp_ret]
  imodintro
  isplitl [HI HX HS]
  · isplitl [HI]; · iexact HI
    isplitl [HX] <;> iassumption
  isplitl [HO] <;> iassumption

theorem part18_wp (v2 arg8 v63 v64 : BitVec 32) :
    (iprop(fetched X d i (p := 0) (by decide) (base i + 2 * t.val) q ∗ outState d i X (b := 1) (by decide) (2 * t.val) ∗ ow i d O W) : sProp 𝕄)
      ⊢ wpT d i (k0_part18 (F := F) i mX (Memref.isWhole_whole _) mO (Memref.isWhole_whole _) mI (Memref.isWhole_whole _) mS (Memref.isWhole_whole _) cc0_scratch2 cc0_scratch3 v2 k0_pay58 chk1 (k0_pay59 k0_pay58) chk2 k0_pay60 t arg8 v63 v64)
        fun _ => iprop(inState d i X (p := 0) (by decide) (base i + (2 * t.val + 2)) q ∗ outState d i X (b := 1) (by decide) (2 * t.val + 1) ∗ ow i d O W) := by
  have ht := trips3 t
  have hk : 2 * t.val < 24 := by omega
  have hc : k0_cond3 t = 1#1 ↔ base i + (2 * t.val + 2) < base i + 24 := (cond3_iff t).trans (by omega)
  rw [part18_eq]
  unfold fetched
  iintro ⟨⟨HI, HX, HS⟩, HO, Hw⟩
  iapply refill_wp X d i O W (p := 0) (b := 1) (k := 2 * t.val) Nat.one_lt_two (cond2_iff t) _ _
    (fillLoop_wp X d i (p := 0) (b := 1) Nat.zero_lt_two Nat.one_lt_two (base i + (2 * t.val)) k0_t5_loop k0_t5_ok rfl trips5 _ offs5 (k0_idx1_inb _ chk1) (k0_idx2_inb _ chk2) fun r u => body5_eq i k0_pay58 chk1 (k0_pay59 k0_pay58) chk2 k0_pay60 t v2 arg8 v63 v64 r u) $$ [HI HO Hw]
  · isplitl [HI]; · iexact HI
    isplitl [HO] <;> iassumption
  iintro ⟨HI, HO, Hw⟩
  iapply seq_wp d i (handOut_wp d i X (b := 1) (k := 2 * t.val) Nat.one_lt_two hk (off_base i (k0_off78_eq i t 0) rfl rfl) _) $$ HO
  iintro %_ HO
  ihave HI := fetched_idle X d i (p := 0) Nat.zero_lt_two (base i + 2 * t.val) q $$ [HI HX HS]
  · unfold fetched
    isplitl [HI]; · iexact HI
    isplitl [HX] <;> iassumption
  iapply seq_wp d i (startInIf_wp d i X (p := 0) (n := base i + (2 * t.val + 2)) Nat.zero_lt_two hc (off_base i (k0_off79_eq i t) rfl rfl) _ q) $$ HI
  iintro %_ HI
  unfold wpT
  rw [Prog.pure_eq_ret, wp_ret]
  imodintro
  isplitl [HI]; · iexact HI
  isplitl [HO] <;> iassumption

theorem part19_wp (v107 v108 : BitVec 32) :
    (iprop(inState d i X (p := 1) (by decide) (base i + (2 * t.val + 1)) q ∗ outState d i X (b := 0) (by decide) (2 * t.val + 1)
        ∗ outState d i X (b := 1) (by decide) (2 * t.val + 1) ∗ ow i d O W) : sProp 𝕄)
      ⊢ wpT d i (k0_part19 (F := F) i mX (Memref.isWhole_whole _) mO (Memref.isWhole_whole _) mI (Memref.isWhole_whole _) mS (Memref.isWhole_whole _) cc0_scratch2 cc0_scratch3 k0_pay58 chk1 (k0_pay59 k0_pay58) chk2 k0_pay60 t v107 v108)
        fun _ => iprop(fetched X d i (p := 1) (by decide) (base i + (2 * t.val + 1)) q ∗ outState d i X (b := 0) (by decide) (2 * t.val + 2)
          ∗ (outSlot d i 1 (RowsDone X (base i + (2 * t.val + 1)) 1 56 0) ∗ outHalf i X d 1 (2 * t.val + 1)
            ∗ semVal (thr d i, SemLoc.dma (semOut (b := 1) (by decide))) 0) ∗ ow i d O W) := by
  have ht := trips3 t
  have hk : 2 * t.val + 1 < 24 := by omega
  have hn : base i + (2 * t.val + 1) < base i + 24 := by omega
  rw [part19_eq]
  iintro ⟨HI, HO, HP, Hw⟩
  iapply seq_wp d i (fetched_wp d i X O W (p := 1) (n := base i + (2 * t.val + 1)) Nat.one_lt_two hn _ _ q) $$ [HI Hw]
  · isplitl [HI] <;> iassumption
  iintro %_ ⟨HI, HS, Hw⟩
  unfold inRes
  icases HI with ⟨HI, HX⟩
  iapply refill_wp X d i O W (p := 1) (b := 0) (k := 2 * t.val + 1) Nat.zero_lt_two (cond4_iff t) _ _
    (fillLoop_wp X d i (p := 1) (b := 0) Nat.one_lt_two Nat.zero_lt_two (base i + (2 * t.val + 1)) k0_t6_loop k0_t6_ok rfl trips6 _ offs6 (k0_idx1_inb _ chk1) (k0_idx2_inb _ chk2) fun r u => body6_eq i k0_pay58 chk1 (k0_pay59 k0_pay58) chk2 k0_pay60 t v107 v108 r u) $$ [HI HO Hw]
  · isplitl [HI]; · iexact HI
    isplitl [HO] <;> iassumption
  iintro ⟨HI, HO, Hw⟩
  iapply seq_wp d i (handOut_wp d i X (b := 0) (k := 2 * t.val + 1) Nat.zero_lt_two hk (off_base i (k0_off55_eq i t 1) rfl rfl) _) $$ HO
  iintro %_ HO
  iapply refill_wp X d i O W (p := 1) (b := 1) (k := 2 * t.val + 1) Nat.one_lt_two (cond5_iff t) _ _
    (fillLoop_wp X d i (p := 1) (b := 1) Nat.one_lt_two Nat.one_lt_two (base i + (2 * t.val + 1)) k0_t7_loop k0_t7_ok rfl trips7 _ offs7 (k0_idx1_inb _ chk1) (k0_idx2_inb _ chk2) fun r u => body7_eq i k0_pay58 chk1 (k0_pay59 k0_pay58) chk2 k0_pay60 t v107 v108 r u) $$ [HI HP Hw]
  · isplitl [HI]; · iexact HI
    isplitl [HP] <;> iassumption
  iintro ⟨HI, HP, Hw⟩
  unfold wpT fetched
  rw [Prog.pure_eq_ret, wp_ret]
  imodintro
  isplitl [HI HX HS]
  · isplitl [HI]; · iexact HI
    isplitl [HX] <;> iassumption
  isplitl [HO]; · iexact HO
  isplitl [HP] <;> iassumption

/-- The tile with `k` images handed out, `k` even. -/
def trips (q0 q1 : PosShare TreeShare) (k : ℕ) : sProp 𝕄 :=
  iprop(inState d i X (p := 0) (by decide) (base i + k) q0 ∗ inState d i X (p := 1) (by decide) (base i + (k + 1)) q1
    ∗ outState d i X (b := 0) (by decide) k ∗ outState d i X (b := 1) (by decide) k ∗ ow i d O W)

/-- One trip: from `2 t` images handed out to `2 t + 2`. -/
theorem trip_wp (q0 q1 : PosShare TreeShare) (v2 : BitVec 32) (v24 : FVec F S16 .f32) (c22 arg9 : BitVec 32) :
    (trips X d i O W q0 q1 (2 * t.val) : sProp 𝕄)
      ⊢ wpT d i (k0_t3_body (F := F) i mX (Memref.isWhole_whole _) mO (Memref.isWhole_whole _) mI (Memref.isWhole_whole _) mS (Memref.isWhole_whole _) cc0_scratch2 cc0_scratch3 v2 v24 c22 k0_pay58 chk1 (k0_pay59 k0_pay58) chk2 t arg9)
        fun _ => trips X d i O W q0 q1 (2 * (t.val + 1)) := by
  have ht := trips3 t
  have hk : 2 * t.val + 1 < 24 := by omega
  have hc : k0_cond6 t = 1#1 ↔ base i + (2 * t.val + 3) < base i + 24 := (cond6_iff t).trans (by omega)
  rw [body3_eq]
  unfold trips
  iintro ⟨HI, HJ, HO, HP, Hw⟩
  iapply seq_wp d i (part17_wp X d i O W t q0 v2 0#32 1#32) $$ [HI HO Hw]
  · isplitl [HI]; · iexact HI
    isplitl [HO] <;> iassumption
  iintro %r ⟨HI, HO, Hw⟩
  iapply seq_wp d i (part18_wp X d i O W t q0 v2 r.1 r.2.1 r.2.2) $$ [HI HP Hw]
  · isplitl [HI]; · iexact HI
    isplitl [HP] <;> iassumption
  iintro %s ⟨HI, HP, Hw⟩
  iapply seq_wp d i (part19_wp X d i O W t q1 s.1 s.2) $$ [HJ HO HP Hw]
  · isplitl [HJ]; · iexact HJ
    isplitl [HO]; · iexact HO
    isplitl [HP] <;> iassumption
  iintro %_ ⟨HJ, HO, HP, Hw⟩
  iapply seq_wp d i (handOut_wp d i X (b := 1) (k := 2 * t.val + 1) Nat.one_lt_two hk (off_base i (k0_off78_eq i t 1) rfl rfl) _) $$ HP
  iintro %_ HP
  ihave HJ := fetched_idle X d i (p := 1) Nat.one_lt_two (base i + (2 * t.val + 1)) q1 $$ HJ
  iapply seq_wp d i (startInIf_wp d i X (p := 1) (n := base i + (2 * t.val + 3)) Nat.one_lt_two hc (off_base i (k0_off125_eq i t) rfl rfl) _ q1) $$ HJ
  iintro %_ HJ
  unfold wpT
  rw [Prog.pure_eq_ret, wp_ret]
  imodintro
  isplitl [HI]; · iexact HI
  isplitl [HJ]; · iexact HJ
  isplitl [HO]; · iexact HO
  isplitl [HP] <;> iassumption

end Cert.Proof.Unpool
-- ==== Proof.Tile.lean ====
/-
  The whole kernel on one tile: from its scratch, its semaphores at rest, a share of the input and its own images of the
  output, to the same with those images unpooled.
-/
module

public import proofs.«01_k».proof.Proof.Steps

@[expose] public section

noncomputable section

namespace Cert.Proof.Unpool

open Cert.KernelIdeal Cert.KernelIdeal.Gen
open Idealize.ShloMosaic Idealize.ShloMosaic.Transfers
open Idealize.ShloMosaic.SparseCore (S V T)
open Idealize.ShloMosaic.SparseCore.Cfg (HIx ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MM F

variable (X : S768x112x112.Idx → Elt F .f32) (d : Dev nD) (i : grid0.Coords) (O : CellTallies nD τ sig (HIx 1)) (W : Waits sig (HIx 1))

/-! ## The kernel as programs of the tile -/

theorem part20_eq :
    k0_part20 (F := F) i mX (Memref.isWhole_whole _) mO (Memref.isWhole_whole _) mI (Memref.isWhole_whole _) mS (Memref.isWhole_whole _) cc0_scratch2 cc0_scratch3
      = (do
        startIn i (p := 0) (by decide) (k0_off1 i) (k0_off1_inb i)
        startIn i (p := 1) (by decide) (k0_off2 i) (k0_off2_inb i)
        Scf.Loop.for k0_t1_loop k0_t1_ok ⟨⟩ (k0_t1_body i mX (Memref.isWhole_whole _) mO (Memref.isWhole_whole _) mI (Memref.isWhole_whole _) mS (Memref.isWhole_whole _) cc0_scratch2 cc0_scratch3)
        pure ⟨Scalar.muli (Scalar.addi (Scalar.muli (BitVec.ofNat 32 (i 1).val) 2#32) (BitVec.ofNat 32 (i 0).val)) 24#32, k0_pay57 (F := F), 0#32⟩) := rfl

theorem part21_eq (v2 c22 : BitVec 32) :
    k0_part21 (F := F) i mX (Memref.isWhole_whole _) mO (Memref.isWhole_whole _) mI (Memref.isWhole_whole _) mS (Memref.isWhole_whole _) cc0_scratch2 cc0_scratch3 v2 (k0_pay57 (F := F)) c22
      = (do
        Scf.Loop.for k0_t2_loop k0_t2_ok ⟨⟩ (k0_t2_body i mX (Memref.isWhole_whole _) mO (Memref.isWhole_whole _) mI (Memref.isWhole_whole _) mS (Memref.isWhole_whole _) cc0_scratch2 cc0_scratch3 v2 (k0_pay57 (F := F)) c22)
        let w1 ← Prog.lift (TpuEff.assume (k0_chk1 k0_pay58) (k0_chk1.dec k0_pay58))
        let w2 ← Prog.lift (TpuEff.assume (k0_chk2 (k0_pay59 k0_pay58)) (k0_chk2.dec (k0_pay59 k0_pay58)))
        let _ ← Scf.Loop.for k0_t3_loop k0_t3_ok 0#32 (k0_t3_body i mX (Memref.isWhole_whole _) mO (Memref.isWhole_whole _) mI (Memref.isWhole_whole _) mS (Memref.isWhole_whole _) cc0_scratch2 cc0_scratch3 v2 (k0_pay57 (F := F)) c22 k0_pay58 w1.down (k0_pay59 k0_pay58) w2.down)
        waitOut i (b := 0) (by decide) (k0_off126 i) (k0_off126_inb i)
        pure ⟨⟩) := rfl

theorem kernel_eq :
    cc0__unpool_sc (F := F) i mX (Memref.isWhole_whole _) mO (Memref.isWhole_whole _) mI (Memref.isWhole_whole _) mS (Memref.isWhole_whole _) cc0_scratch2 cc0_scratch3
      = (do
        let r ← k0_part20 i mX (Memref.isWhole_whole _) mO (Memref.isWhole_whole _) mI (Memref.isWhole_whole _) mS (Memref.isWhole_whole _) cc0_scratch2 cc0_scratch3
        k0_part21 i mX (Memref.isWhole_whole _) mO (Memref.isWhole_whole _) mI (Memref.isWhole_whole _) mS (Memref.isWhole_whole _) cc0_scratch2 cc0_scratch3 r.1 r.2.1 r.2.2
        waitOut i (b := 1) (by decide) (k0_off127 i) (k0_off127_inb i)
        pure ⟨⟩) := rfl

/-- An assumption that holds is passed. -/
theorem assume_wp {A : Type} {P : Prop} {dc : Decidable P} (h : P) (k : PLift P → TileProg F i A) (S : A → sProp 𝕄) :
    wpT d i (k ⟨h⟩) S ⊢ wpT d i (Prog.lift (TpuEff.assume P dc) >>= k) S := by
  unfold wpT
  simp only [Prog.lift, Prog.bind_op, Prog.bind_ret]
  exact wp_assume 𝒱₀ (thr d i) none Set.univ h

/-! ## The tile's states -/

/-- The tile at rest with `k` images of each half handed out. -/
def rest (q0 q1 : PosShare TreeShare) (k : ℕ) : sProp 𝕄 :=
  iprop(inIdle d i X (p := 0) (by decide) q0 ∗ inIdle d i X (p := 1) (by decide) q1 ∗ outIdle d i X (b := 0) (by decide) k ∗ outIdle d i X (b := 1) (by decide) k)

/-- The tile as it starts: both output slots hold anything. -/
def fresh (q0 q1 : PosShare TreeShare) : sProp 𝕄 :=
  iprop(inIdle d i X (p := 0) (by decide) q0 ∗ inIdle d i X (p := 1) (by decide) q1
    ∗ (outSlot d i 0 (fun _ => True) ∗ outHalf i X d 0 0 ∗ semVal (thr d i, SemLoc.dma (semOut (b := 0) (by decide))) 0)
    ∗ (outSlot d i 1 (fun _ => True) ∗ outHalf i X d 1 0 ∗ semVal (thr d i, SemLoc.dma (semOut (b := 1) (by decide))) 0))

/-- The outer loop: twenty-four images. -/
theorem images_wp (q0 q1 : PosShare TreeShare) (v2 : BitVec 32) (v24 : FVec F S16 .f32) (c22 : BitVec 32) :
    (trips X d i O W q0 q1 0 : sProp 𝕄)
      ⊢ wpT d i (Scf.Loop.for k0_t3_loop k0_t3_ok 0#32 (k0_t3_body i mX (Memref.isWhole_whole _) mO (Memref.isWhole_whole _) mI (Memref.isWhole_whole _) mS (Memref.isWhole_whole _) cc0_scratch2 cc0_scratch3 v2 v24 c22 k0_pay58 chk1 (k0_pay59 k0_pay58) chk2))
          fun _ => trips X d i O W q0 q1 24 := by
  refine BIBase.Entails.trans ?_ (Scf.wp_for _ _ _ k0_t3_loop.lb k0_t3_loop.ub k0_t3_loop.st k0_t3_ok 0#32 _
    (fun n _ => trips X d i O W q0 q1 (2 * n)) fun t arg9 => trip_wp X d i O W t q0 q1 v2 v24 c22 arg9)
  iintro H
  isplitl [H]
  · iexact H
  · iintro %u H
    iexact H

theorem inState_start {p n : ℕ} (hp : p < 2) (hn : n < base i + 24) (q : PosShare TreeShare) :
    (Flight (EC (F := F)) (thr d i) (.dma (semIn hp)) none NI iprop(inSlot X d i p n ∗ xShare i X d q) : sProp 𝕄) ⊢ inState d i X hp n q := by
  unfold inState
  rw [if_pos hn]
  exact .rfl

theorem inState_end {p n : ℕ} (hp : p < 2) (hn : ¬ n < base i + 24) (q : PosShare TreeShare) : (inState d i X hp n q : sProp 𝕄) ⊢ inIdle d i X hp q := by
  unfold inState
  rw [if_neg hn]

theorem outState_start {b : ℕ} (hb : b < 2) : (outIdle d i X hb 0 : sProp 𝕄) ⊢ outState d i X hb 0 := by
  unfold outState
  rw [if_pos rfl]

/-- The last write-out of slot `b` waited for. -/
theorem drained_wp {b k : ℕ} (hb : b < 2) (hk : k ≠ 0) (off : Fin 3 → Nat) (h : ∀ a, off a + S1x112x224.size a ≤ S768x224x224.size a) :
    (iprop(outState d i X hb k ∗ ow i d O W) : sProp 𝕄) ⊢ wpT d i (waitOut i hb off h) fun _ => iprop(outIdle d i X hb k ∗ ow i d O W) := by
  unfold outState outIdle
  rw [if_neg hk]
  refine (waitOut_wp i d hb h _ O W).trans (wp_mono _ _ _ fun _ => ?_)
  iintro ⟨HR, HS, HO⟩
  isplitr [HO]
  · isplitl [HR] <;> iassumption
  · iexact HO

theorem part20_wp (q0 q1 : PosShare TreeShare) :
    (fresh X d i q0 q1 : sProp 𝕄)
      ⊢ wpT d i (k0_part20 (F := F) i mX (Memref.isWhole_whole _) mO (Memref.isWhole_whole _) mI (Memref.isWhole_whole _) mS (Memref.isWhole_whole _) cc0_scratch2 cc0_scratch3) fun r => iprop(⌜r.2.1 = k0_pay57⌝ ∗ inState d i X (p := 0) (by decide) (base i + 0) q0
        ∗ inState d i X (p := 1) (by decide) (base i + 1) q1 ∗ outState d i X (b := 0) (by decide) 0
        ∗ outSlot d i 1 (fun _ => True) ∗ outHalf i X d 1 0 ∗ semVal (thr d i, SemLoc.dma (semOut (b := 1) (by decide))) 0) := by
  have hn0 : base i + 0 < base i + 24 := by omega
  have hn1 : base i + 1 < base i + 24 := by omega
  rw [part20_eq]
  unfold fresh inIdle
  iintro ⟨⟨⟨%f0, Hf0⟩, HX0, HS0⟩, ⟨⟨%f1, Hf1⟩, HX1, HS1⟩, ⟨HZ, HH, HS⟩, HB⟩
  iapply seq_wp d i (startIn_wp i X d (p := 0) (n := base i + 0) Nat.zero_lt_two (off_base i (k0_off1_eq i) rfl rfl) (k0_off1_inb i) q0 f0) $$ [Hf0 HX0 HS0]
  · isplitl [Hf0]; · iexact Hf0
    isplitl [HX0] <;> iassumption
  iintro %_ HI
  iapply seq_wp d i (startIn_wp i X d (p := 1) (n := base i + 1) Nat.one_lt_two (off_base i (k0_off2_eq i) rfl rfl) (k0_off2_inb i) q1 f1) $$ [Hf1 HX1 HS1]
  · isplitl [Hf1]; · iexact Hf1
    isplitl [HX1] <;> iassumption
  iintro %_ HJ
  iapply seq_wp d i (zeroLoop_wp d i (b := 0) Nat.zero_lt_two k0_t1_loop k0_t1_ok rfl trips1 _ offs1 fun t u => body1_eq i t u) $$ HZ
  iintro %_ HZ
  unfold wpT
  rw [Prog.pure_eq_ret, wp_ret]
  imodintro
  isplitr
  · ipureintro; rfl
  isplitl [HI]
  · iapply inState_start X d i Nat.zero_lt_two hn0 q0 $$ HI
  isplitl [HJ]
  · iapply inState_start X d i Nat.one_lt_two hn1 q1 $$ HJ
  isplitl [HZ HH HS]
  · iapply outState_start X d i Nat.zero_lt_two
    unfold outIdle outRes
    isplitr [HS]
    · isplitl [HZ] <;> iassumption
    · iexact HS
  · iexact HB

theorem part21_wp (q0 q1 : PosShare TreeShare) (v2 c22 : BitVec 32) :
    (iprop((inState d i X (p := 0) (by decide) (base i + 0) q0 ∗ inState d i X (p := 1) (by decide) (base i + 1) q1 ∗ outState d i X (b := 0) (by decide) 0
        ∗ outSlot d i 1 (fun _ => True) ∗ outHalf i X d 1 0 ∗ semVal (thr d i, SemLoc.dma (semOut (b := 1) (by decide))) 0) ∗ ow i d O W) : sProp 𝕄)
      ⊢ wpT d i (k0_part21 (F := F) i mX (Memref.isWhole_whole _) mO (Memref.isWhole_whole _) mI (Memref.isWhole_whole _) mS (Memref.isWhole_whole _) cc0_scratch2 cc0_scratch3 v2 (k0_pay57 (F := F)) c22)
        fun _ => iprop((inIdle d i X (p := 0) (by decide) q0 ∗ inIdle d i X (p := 1) (by decide) q1 ∗ outIdle d i X (b := 0) (by decide) 24)
          ∗ outState d i X (b := 1) (by decide) 24 ∗ ow i d O W) := by
  have hn0 : ¬ base i + 24 < base i + 24 := by omega
  have hn1 : ¬ base i + (24 + 1) < base i + 24 := by omega
  rw [part21_eq]
  iintro ⟨⟨HI, HJ, HA, HZ, HH, HS⟩, Hw⟩
  iapply seq_wp d i (zeroLoop_wp d i (b := 1) Nat.one_lt_two k0_t2_loop k0_t2_ok rfl trips2 _ offs2 fun t u => body2_eq i v2 c22 t u) $$ HZ
  iintro %_ HZ
  iapply assume_wp d i chk1
  iapply assume_wp d i chk2
  iapply seq_wp d i (images_wp X d i O W q0 q1 v2 (k0_pay57 (F := F)) c22) $$ [HI HJ HA HZ HH HS Hw]
  · unfold trips
    isplitl [HI]; · iexact HI
    isplitl [HJ]; · iexact HJ
    isplitl [HA]; · iexact HA
    isplitl [HZ HH HS]
    · iapply outState_start X d i Nat.one_lt_two
      unfold outIdle outRes
      isplitr [HS]
      · isplitl [HZ] <;> iassumption
      · iexact HS
    · iexact Hw
  iintro %_ HT
  unfold trips
  icases HT with ⟨HI, HJ, HA, HB, Hw⟩
  iapply seq_wp d i (drained_wp X d i O W (b := 0) (k := 24) Nat.zero_lt_two (Nat.succ_ne_zero 23) (k0_off126 i) (k0_off126_inb i)) $$ [HA Hw]
  · isplitl [HA] <;> iassumption
  iintro %_ ⟨HA, Hw⟩
  unfold wpT
  rw [Prog.pure_eq_ret, wp_ret]
  imodintro
  isplitl [HI HJ HA]
  · isplitl [HI]
    · iapply inState_end X d i Nat.zero_lt_two hn0 q0 $$ HI
    isplitl [HJ]
    · iapply inState_end X d i Nat.one_lt_two hn1 q1 $$ HJ
    · iexact HA
  isplitl [HB] <;> iassumption

/-- The kernel on its tile: every image of the tile written out, both halves. -/
theorem kernel_wp (q0 q1 : PosShare TreeShare) :
    (iprop(fresh X d i q0 q1 ∗ ow i d O W) : sProp 𝕄)
      ⊢ wpT d i (cc0__unpool_sc (F := F) i mX (Memref.isWhole_whole _) mO (Memref.isWhole_whole _) mI (Memref.isWhole_whole _) mS (Memref.isWhole_whole _) cc0_scratch2 cc0_scratch3) fun _ => iprop(rest X d i q0 q1 24 ∗ ow i d O W) := by
  rw [kernel_eq]
  iintro ⟨HF, Hw⟩
  iapply seq_wp d i (part20_wp X d i q0 q1) $$ HF
  iintro %r ⟨%hr, HT⟩
  rw [hr]
  iapply seq_wp d i (part21_wp X d i O W q0 q1 r.1 r.2.2) $$ [HT Hw]
  · isplitl [HT] <;> iassumption
  iintro %_ ⟨HT, HB, Hw⟩
  iapply seq_wp d i (drained_wp X d i O W (b := 1) (k := 24) Nat.one_lt_two (Nat.succ_ne_zero 23) (k0_off127 i) (k0_off127_inb i)) $$ [HB Hw]
  · isplitl [HB] <;> iassumption
  iintro %_ ⟨HB, Hw⟩
  unfold wpT rest
  rw [Prog.pure_eq_ret, wp_ret]
  imodintro
  isplitr [Hw]
  · icases HT with ⟨HI, HJ, HA⟩
    isplitl [HI]; · iexact HI
    isplitl [HJ]; · iexact HJ
    isplitl [HA] <;> iassumption
  · iexact Hw

end Cert.Proof.Unpool
-- ==== Proof.Own.lean ====
/-
  What a tile owns and what it is handed, cut into the pieces the kernel's proof moves: its two scratch buffers into their
  slots, its four semaphores out of its own cells, its share of the input into two, its images of the output into halves.
-/
module

public import proofs.«01_k».proof.Proof.Tile

@[expose] public section

noncomputable section

namespace Cert.Proof.Unpool

open Cert.KernelIdeal Cert.KernelIdeal.Gen
open Idealize.ShloMosaic Idealize.ShloMosaic.Transfers
open Idealize.ShloMosaic.SparseCore (S V T)
open Idealize.ShloMosaic.SparseCore.Cfg (HIx ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MM F

variable (X : S768x112x112.Idx → Elt F .f32) (d : Dev nD) (i : grid0.Coords)

/-! ## Two parts of one buffer -/

/-- A buffer held on two disjoint sets is held on their union. -/
theorem two_parts {ℓ : Loc nD τ sig} {I J U : Finset (Idx ℓ)} (hd : Disjoint I J) (hu : I ∪ J = U) (q : PosShare TreeShare) (f : Buf (Elt F) ℓ) :
    (ℓ ↦[U]{q} f : sProp 𝕄) ⊣⊢ iprop((ℓ ↦[I]{q} f) ∗ ℓ ↦[J]{q} f) := by
  subst hu
  exact pointsTo_union hd

/-- Two disjoint sets of a buffer, at any contents, are their union at some contents. -/
theorem two_join {ℓ : Loc nD τ sig} {I J U : Finset (Idx ℓ)} (hd : Disjoint I J) (hu : I ∪ J = U) (q : PosShare TreeShare) :
    (iprop((∃ f : Buf (Elt F) ℓ, ℓ ↦[I]{q} f) ∗ ∃ f : Buf (Elt F) ℓ, ℓ ↦[J]{q} f) : sProp 𝕄) ⊢ iprop(∃ f : Buf (Elt F) ℓ, ℓ ↦[U]{q} f) := by
  subst hu
  iintro ⟨⟨%f, HI⟩, ⟨%g, HJ⟩⟩
  iexists J.piecewise g f
  iapply (pointsTo_join hd)
  isplitl [HI] <;> iassumption

/-! ## The sets -/

theorem slotI_disj : Disjoint (slotI 0) (slotI 1) :=
  Finset.disjoint_left.mpr fun y h h' => by rw [mem_slotI] at h h'; omega
theorem slotI_all : slotI 0 ∪ slotI 1 = Finset.univ := by
  ext y
  have h : (y 0).val < 2 := (y 0).isLt
  simp only [Finset.mem_union, mem_slotI, Finset.mem_univ, iff_true]
  omega

theorem slotS_disj : Disjoint (slotS 0) (slotS 1) :=
  Finset.disjoint_left.mpr fun y h h' => by rw [mem_slotS] at h h'; omega
theorem slotS_all : slotS 0 ∪ slotS 1 = Finset.univ := by
  ext y
  have h : (y 0).val < 2 := (y 0).isLt
  simp only [Finset.mem_union, mem_slotS, Finset.mem_univ, iff_true]
  omega

/-- The images of the tile at `i` in the output. -/
def tileO (i : grid0.Coords) : Finset S768x224x224.Idx := Finset.univ.filter fun y => base i ≤ (y 0).val ∧ (y 0).val < base i + 24

theorem mem_tileO {y : S768x224x224.Idx} : y ∈ tileO i ↔ base i ≤ (y 0).val ∧ (y 0).val < base i + 24 := by simp [tileO]

theorem halfO_disj : Disjoint (halfO i 0) (halfO i 1) :=
  Finset.disjoint_left.mpr fun y h h' => by rw [mem_halfO] at h h'; omega
theorem halfO_all : halfO i 0 ∪ halfO i 1 = tileO i := by
  ext y
  have h : (y 1).val < 224 := (y 1).isLt
  simp only [Finset.mem_union, mem_halfO, mem_tileO]
  omega

/-! ## The tile's semaphores and scratch buffers among its own -/

abbrev cI0 : GSem nD τ sig := (thr d i, .dma (semIn Nat.zero_lt_two))
abbrev cI1 : GSem nD τ sig := (thr d i, .dma (semIn Nat.one_lt_two))
abbrev cO0 : GSem nD τ sig := (thr d i, .dma (semOut Nat.zero_lt_two))
abbrev cO1 : GSem nD τ sig := (thr d i, .dma (semOut Nat.one_lt_two))

theorem own_cI0 : cI0 d i ∈ ownCells (thr d i) :=
  mem_ownCells.mpr ⟨rfl, by show (SemLoc.dma (semIn Nat.zero_lt_two) : SemLoc sig).isScoped .scVector = true; decide⟩
theorem own_cI1 : cI1 d i ∈ ownCells (thr d i) :=
  mem_ownCells.mpr ⟨rfl, by show (SemLoc.dma (semIn Nat.one_lt_two) : SemLoc sig).isScoped .scVector = true; decide⟩
theorem own_cO0 : cO0 d i ∈ ownCells (thr d i) :=
  mem_ownCells.mpr ⟨rfl, by show (SemLoc.dma (semOut Nat.zero_lt_two) : SemLoc sig).isScoped .scVector = true; decide⟩
theorem own_cO1 : cO1 d i ∈ ownCells (thr d i) :=
  mem_ownCells.mpr ⟨rfl, by show (SemLoc.dma (semOut Nat.one_lt_two) : SemLoc sig).isScoped .scVector = true; decide⟩

/-- Two cells of one thread at different semaphores are different. -/
theorem cell_ne {s t : DmaSem sig} (h : (SemLoc.dma s : SemLoc sig) ≠ .dma t) : ((thr d i, .dma s) : GSem nD τ sig) ≠ (thr d i, .dma t) :=
  fun e => h (congrArg Prod.snd e)

/-- The tile's own cells but the four the kernel uses. -/
def otherCells : Finset (GSem nD τ sig) := ((((ownCells (thr d i)).erase (cI0 d i)).erase (cI1 d i)).erase (cO0 d i)).erase (cO1 d i)

/-- The four semaphores out of the tile's own cells. -/
theorem sems_split :
    (ownSems0 (thr d i) : sProp 𝕄)
      = iprop(semVal (cI0 d i) 0 ∗ semVal (cI1 d i) 0 ∗ semVal (cO0 d i) 0 ∗ semVal (cO1 d i) 0 ∗ bigSep (otherCells d i) fun g => semVal g 0) := by
  unfold SparseCore.Cfg.ownSems0 otherCells
  rw [SparseCore.bigSep_erase' (own_cI0 d i),
    SparseCore.bigSep_erase' (Finset.mem_erase.mpr ⟨cell_ne d i (by decide), own_cI1 d i⟩),
    SparseCore.bigSep_erase' (Finset.mem_erase.mpr ⟨cell_ne d i (by decide), Finset.mem_erase.mpr ⟨cell_ne d i (by decide), own_cO0 d i⟩⟩),
    SparseCore.bigSep_erase' (Finset.mem_erase.mpr ⟨cell_ne d i (by decide), Finset.mem_erase.mpr ⟨cell_ne d i (by decide),
      Finset.mem_erase.mpr ⟨cell_ne d i (by decide), own_cO1 d i⟩⟩⟩)]

/-- The tile's processor. -/
abbrev pr (i : grid0.Coords) : Proc τ := Proc.scVector ((i 0).castLE hcore0) ((i 1).castLE hsub0)

/-- The tile's own buffers but the kernel's two scratch buffers. -/
def otherBufs : sProp 𝕄 :=
  bigSep (((ownRefs (τ := τ) (pr i)).erase ((pr i).devRef cc0_scratch0)).erase ((pr i).devRef cc0_scratch1))
    fun b => iprop(∃ f, ((d, b) : Loc nD τ sig) ↦{fullShare} f)

/-- The two scratch buffers out of the tile's own buffers. -/
theorem bufs_split :
    (ownBufs (thr d i) : sProp 𝕄)
      = iprop((∃ f : Buf (Elt F) (mI.view.loc (thr d i)), mI.view.loc (thr d i) ↦[Finset.univ]{fullShare} f)
          ∗ (∃ f : Buf (Elt F) (mS.view.loc (thr d i)), mS.view.loc (thr d i) ↦[Finset.univ]{fullShare} f) ∗ otherBufs (F := F) d i) := by
  unfold SparseCore.Cfg.ownBufs otherBufs
  refine (SparseCore.bigSep_erase' (SparseCore.Cfg.mem_ownRefs_of_owner (p := pr i) (b := (pr i).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := pr i) (b := (pr i).devRef cc0_scratch1) rfl⟩)]

/-! ## From what the tile is handed to the kernel's start, and back -/

/-- The tile's images of the output at `f`. -/
def outTile (f : Buf (Elt F) (mO.view.loc (thr d i))) : sProp 𝕄 := mO.view.loc (thr d i) ↦[tileO i]{fullShare} f

theorem enter (q : PosShare TreeShare) (f : Buf (Elt F) (mO.view.loc (thr d i))) :
    (iprop((xShare i X d q ∗ outTile d i f) ∗ ownBufs (thr d i) ∗ ownSems0 (thr d i)) : sProp 𝕄)
      ⊢ iprop(fresh X d i q.left q.right ∗ otherBufs (F := F) d i ∗ bigSep (otherCells d i) fun g => semVal g 0) := by
  rw [sems_split, bufs_split]
  unfold outTile xShare fresh inIdle outSlot outHalf xShare
  iintro ⟨⟨Hx, Ho⟩, ⟨⟨%fi, HI⟩, ⟨%fs, HS⟩, Hob⟩, HsI, HsJ, HsA, HsB, Hoc⟩
  ihave Hx' := (pointsTo_share (PosShare.mem_left_op_right q)).1 $$ Hx
  icases Hx' with ⟨Hx0, Hx1⟩
  ihave Ho' := (two_parts (halfO_disj i) (halfO_all i) fullShare f).1 $$ Ho
  icases Ho' with ⟨Ho0, Ho1⟩
  ihave HI' := (two_parts slotI_disj slotI_all fullShare fi).1 $$ HI
  icases HI' with ⟨HI0, HI1⟩
  ihave HS' := (two_parts slotS_disj slotS_all fullShare fs).1 $$ HS
  icases HS' with ⟨HS0, HS1⟩
  isplitr [Hob Hoc]
  · isplitl [HI0 Hx0 HsI]
    · isplitl [HI0]; · iexists fi; iexact HI0
      isplitl [Hx0] <;> iassumption
    isplitl [HI1 Hx1 HsJ]
    · isplitl [HI1]; · iexists fi; iexact HI1
      isplitl [Hx1] <;> iassumption
    isplitl [HS0 Ho0 HsA]
    · isplitl [HS0]
      · iexists fs; isplitr; · ipureintro; trivial
        iexact HS0
      isplitl [Ho0]
      · iexists f; isplitr; · ipureintro; intro y hy h; have := mem_halfO.mp hy; omega
        iexact Ho0
      · iexact HsA
    · isplitl [HS1]
      · iexists fs; isplitr; · ipureintro; trivial
        iexact HS1
      isplitl [Ho1]
      · iexists f; isplitr; · ipureintro; intro y hy h; have := mem_halfO.mp hy; omega
        iexact Ho1
      · iexact HsB
  · isplitl [Hob] <;> iassumption

/-- A half of the tile's images, all unpooled, holds the unpooled input. -/
theorem half_done (b : ℕ) : (outHalf i X d b 24 : sProp 𝕄) ⊢ mO.view.loc (thr d i) ↦[halfO i b]{fullShare} unp X := by
  unfold outHalf
  iintro ⟨%g, %hg, H⟩
  have e := fun y hy => hg y hy (mem_halfO.mp hy).2.1
  iapply (Entails.of_eq (pointsTo_congr e)) $$ H

/-- A slot holding something of which `R` is true holds something. -/
theorem slot_any (b : ℕ) (R : (S2x112x224.Idx → Elt F .f32) → Prop) :
    (outSlot d i b R : sProp 𝕄) ⊢ iprop(∃ f : Buf (Elt F) (mS.view.loc (thr d i)), mS.view.loc (thr d i) ↦[slotS b]{fullShare} f) := by
  unfold outSlot
  iintro ⟨%f, -, H⟩
  iexists f; iexact H

theorem leave (q : PosShare TreeShare) :
    (iprop(rest X d i q.left q.right 24 ∗ otherBufs (F := F) d i ∗ bigSep (otherCells d i) fun g => semVal g 0) : sProp 𝕄)
      ⊢ iprop((xShare i X d q ∗ outTile d i (unp X)) ∗ ownBufs (thr d i) ∗ ownSems0 (thr d i)) := by
  rw [sems_split, bufs_split]
  unfold rest inIdle outIdle outRes outTile
  iintro ⟨⟨⟨HI0, Hx0, HsI⟩, ⟨HI1, Hx1, HsJ⟩, ⟨⟨HS0, Ho0⟩, HsA⟩, ⟨⟨HS1, Ho1⟩, HsB⟩⟩, Hob, Hoc⟩
  unfold xShare
  isplitl [Hx0 Hx1 Ho0 Ho1]
  · isplitl [Hx0 Hx1]
    · iapply (pointsTo_share (PosShare.mem_left_op_right q)).2
      isplitl [Hx0] <;> iassumption
    · iapply (two_parts (halfO_disj i) (halfO_all i) fullShare (unp X)).2
      isplitl [Ho0]
      · iapply half_done X d i 0 $$ Ho0
      · iapply half_done X d i 1 $$ Ho1
  isplitl [HI0 HI1 HS0 HS1 Hob]
  · isplitl [HI0 HI1]
    · iapply (two_join slotI_disj slotI_all fullShare)
      isplitl [HI0] <;> iassumption
    isplitl [HS0 HS1]
    · iapply (two_join slotS_disj slotS_all fullShare)
      isplitl [HS0]
      · iapply slot_any d i 0 _ $$ HS0
      · iapply slot_any d i 1 _ $$ HS1
    · iexact Hob
  isplitl [HsI]; · iexact HsI
  isplitl [HsJ]; · iexact HsJ
  isplitl [HsA]; · iexact HsA
  isplitl [HsB] <;> iassumption

/-- The tile's task: from its share of the input and its images of the output, to the same with the images unpooled. -/
theorem task_wp (hF : (K (F := F)).Facts) (O : CellTallies nD τ sig (HIx 1)) (W : Waits sig (HIx 1)) (hO : ∀ g, O g none = 0)
    (q : PosShare TreeShare) (f : Buf (Elt F) (mO.view.loc (thr d i))) :
    (iprop(levAts (K (F := F)).L (K (F := F)).lev ∗ emp ∗ (xShare i X d q ∗ outTile d i f)
        ∗ scopedBufs (thr d i) ∗ scopedSems0 (thr d i) ∗ owes (thr d i) O W) : sProp 𝕄)
      ⊢ wpT d i (cc0__unpool_sc (F := F) i mX (Memref.isWhole_whole _) mO (Memref.isWhole_whole _) mI (Memref.isWhole_whole _) mS (Memref.isWhole_whole _) cc0_scratch2 cc0_scratch3)
          fun _ => iprop((xShare i X d q ∗ outTile d i (unp X)) ∗ scopedBufs (thr d i) ∗ scopedSems0 (thr d i)
            ∗ ∃ W', ⌜∀ p ∈ W', p ∈ W ∨ p.2 = none⌝ ∗ owes (thr d i) O W') := by
  rw [(K (F := F)).scopedBufs_V hF d ((i 0).castLE hcore0) ((i 1).castLE hsub0),
    SparseCore.Cfg.scopedSems0_V (Val := Elt F) d ((i 0).castLE hcore0) ((i 1).castLE hsub0)]
  iintro ⟨#Hlv, -, HA, HB, HC, HO⟩
  ihave Hmw := ((K (F := F)).mayWaits_none (thr := thr d i) hO) $$ Hlv
  ihave HE := (enter X d i q f) $$ [HA HB HC]
  · isplitl [HA]; · iexact HA
    isplitl [HB] <;> iassumption
  icases HE with ⟨HF, Hother⟩
  ihave HW := (kernel_wp X d i O W q.left q.right) $$ [HF HO Hmw]
  · isplitl [HF]; · iexact HF
    unfold ow
    isplitl [HO]
    · iexists W; isplitr; · ipureintro; exact fun p hp => .inl hp
      iexact HO
    · iexact Hmw
  unfold wpT
  iapply (wp_wand _ _ _) $$ HW
  iintro %_ ⟨HR, Hw⟩
  ihave HL := (leave X d i q) $$ [HR Hother]
  · isplitl [HR] <;> iassumption
  icases HL with ⟨HA, HB, HC⟩
  isplitl [HA]; · iexact HA
  isplitl [HB]; · iexact HB
  isplitl [HC]; · iexact HC
  unfold ow
  icases Hw with ⟨Hw, -⟩
  iexact Hw

end Cert.Proof.Unpool
-- ==== Proof.Deal.lean ====
/-
  How the call's two arrays are dealt among the tiles: to each tile a share of the whole input and its own images of the
  output.
-/
module

public import proofs.«01_k».proof.Proof.Own

@[expose] public section

noncomputable section

namespace Cert.Proof.Unpool

open Cert.KernelIdeal Cert.KernelIdeal.Gen
open Idealize.ShloMosaic Idealize.ShloMosaic.Transfers
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MM F

/-- The coordinates of tile `s` of SparseCore `c`. -/
def tileAt (c : Fin 2) (s : Fin 16) : grid0.Coords :=
  fun | 0 => c | 1 => s | ⟨_ + 2, h⟩ => absurd h (Nat.not_lt.2 (Nat.le_add_left _ _))

theorem base_tileAt (c : Fin 2) (s : Fin 16) : base (tileAt c s) = 48 * s.val + 24 * c.val := rfl

/-- The input and the output, as the TensorCore names them. -/
abbrev xLoc (d : Dev nD) : Loc nD τ sig := (SparseCore.T d).loc main_v0
abbrev oLoc (d : Dev nD) : Loc nD τ sig := (SparseCore.T d).loc main_v1

/-- Tile `s` of SparseCore `c`'s share of the input. -/
def tileShare (c : Fin 2) (s : Fin 16) : PosShare TreeShare := dealOf (dealOf fullShare Finset.univ c) Finset.univ s

/-- What the tile holds of the two arrays, the input at `X`, its images of the output at `f`. -/
def tilePts (X : S768x112x112.Idx → Elt F .f32) (d : Dev nD) (f : S768x224x224.Idx → Elt F .f32) (c : Fin 2) (s : Fin 16) : sProp 𝕄 :=
  iprop(xShare (tileAt c s) X d (tileShare c s) ∗ outTile d (tileAt c s) f)

/-- What SparseCore `c`'s tiles hold together. -/
def corePts (X : S768x112x112.Idx → Elt F .f32) (d : Dev nD) (f : S768x224x224.Idx → Elt F .f32) (c : Fin 2) : sProp 𝕄 :=
  bigSep Finset.univ (tilePts X d f c)

instance tilePts_storable (X : S768x112x112.Idx → Elt F .f32) (d : Dev nD) (f : S768x224x224.Idx → Elt F .f32) (c : Fin 2) (s : Fin 16) :
    BI.Storable (upEmb : UEmb _ 𝕄) (tilePts X d f c s) := by
  unfold tilePts xShare outTile
  infer_instance

instance corePts_storable (X : S768x112x112.Idx → Elt F .f32) (d : Dev nD) (f : S768x224x224.Idx → Elt F .f32) (c : Fin 2) :
    BI.Storable (upEmb : UEmb _ 𝕄) (corePts X d f c) := by
  unfold corePts
  infer_instance

/-! ## The output's images, tile by tile -/

/-- Different tiles have different images. -/
theorem tileO_disj {c c' : Fin 2} {s s' : Fin 16} (h : ¬ (c = c' ∧ s = s')) : Disjoint (tileO (tileAt c s)) (tileO (tileAt c' s')) := by
  refine Finset.disjoint_left.mpr fun y hy hy' => h ?_
  rw [mem_tileO, base_tileAt] at hy hy'
  have hc := c.isLt
  have hc' := c'.isLt
  exact ⟨Fin.ext (by omega), Fin.ext (by omega)⟩

/-- SparseCore `c`'s images. -/
def coreO (c : Fin 2) : Finset S768x224x224.Idx := Finset.univ.biUnion fun s => tileO (tileAt c s)

theorem coreO_disj {c c' : Fin 2} (h : c ≠ c') : Disjoint (coreO c) (coreO c') := by
  unfold coreO
  rw [Finset.disjoint_biUnion_left]
  intro s _
  rw [Finset.disjoint_biUnion_right]
  intro s' _
  exact tileO_disj fun e => h e.1

theorem coreO_all : (Finset.univ : Finset (Fin 2)).biUnion coreO = Finset.univ := by
  ext y
  have h : (y 0).val < 768 := (y 0).isLt
  simp only [Finset.mem_univ, iff_true, Finset.mem_biUnion, true_and, coreO]
  refine ⟨⟨(y 0).val / 24 % 2, by omega⟩, ⟨(y 0).val / 48, by omega⟩, ?_⟩
  rw [mem_tileO, base_tileAt]
  dsimp only
  omega

theorem out_dealt (d : Dev nD) (f : Buf (Elt F) (oLoc d)) :
    (oLoc d ↦{fullShare} f : sProp 𝕄) = bigSep Finset.univ fun c => bigSep Finset.univ fun s => outTile d (tileAt c s) f := by
  have e : (oLoc d ↦{fullShare} f : sProp 𝕄) = oLoc d ↦[(Finset.univ : Finset (Fin 2)).biUnion coreO]{fullShare} f := by rw [coreO_all]; try rfl
  rw [e, pointsTo_biUnion (ℓ := oLoc d) Finset.univ coreO fun c _ c' _ h => coreO_disj h]
  refine bigSep_congr fun c _ => ?_
  unfold coreO
  exact pointsTo_biUnion (ℓ := oLoc d) Finset.univ (fun s => tileO (tileAt c s)) fun s _ s' _ h => tileO_disj fun e => h e.2

theorem in_dealt (d : Dev nD) (X : Buf (Elt F) (xLoc d)) :
    (xLoc d ↦{fullShare} X : sProp 𝕄)
      = bigSep Finset.univ fun c => bigSep Finset.univ fun s => xShare (tileAt c s) X d (tileShare c s) := by
  rw [pointsTo_deal (ℓ := xLoc d) (Finset.univ : Finset (Fin 2)) ⟨0, Finset.mem_univ _⟩ fullShare]
  refine bigSep_congr fun c _ => ?_
  exact pointsTo_deal (ℓ := xLoc d) (Finset.univ : Finset (Fin 16)) ⟨0, Finset.mem_univ _⟩ (dealOf fullShare Finset.univ c)

/-- The two arrays whole are what all the tiles hold. -/
theorem dealt (d : Dev nD) (X : Buf (Elt F) (xLoc d)) (f : Buf (Elt F) (oLoc d)) :
    (iprop((xLoc d ↦{fullShare} X) ∗ oLoc d ↦{fullShare} f) : sProp 𝕄) = bigSep Finset.univ (corePts X d f) := by
  rw [in_dealt, out_dealt]
  refine (BI.bigSep_sep _ _ _).symm.trans (bigSep_congr fun c _ => ?_)
  exact (BI.bigSep_sep _ _ _).symm

end Cert.Proof.Unpool
-- ==== Proof.Launch.lean ====
/-
  The launch: what the call hands each SparseCore and each tile, the tiles' obligation, @main on the TensorCore, and the
  program's run — its result is the input unpooled, its arguments are as they were, its semaphores are at zero.
-/
module

public import proofs.«01_k».proof.Proof.Deal

@[expose] public section

noncomputable section

namespace Cert.Proof.Unpool

open Cert.KernelIdeal Cert.KernelIdeal.Gen
open Idealize.ShloMosaic Idealize.ShloMosaic.StableHlo
open Idealize.ShloMosaic.SparseCore (S V T)
open Idealize.ShloMosaic.SparseCore.Cfg (HIx Pay tileRest)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

variable (m : (ℓ : Loc nD τ sig) → Buf (Elt F) ℓ) (ρ : Dev nD → PrngReg)

/-! ## The arrays and their values -/

abbrev aLoc (d : Dev nD) : Loc nD τ sig := (SparseCore.T d).loc main_arg0
abbrev iLoc (d : Dev nD) : Loc nD τ sig := (SparseCore.T d).loc main_arg1
abbrev rLoc (d : Dev nD) : Loc nD τ sig := (SparseCore.T d).loc main_v2

/-- The input as the kernel reads it: the batch and channel axes flattened into one of images. -/
def flatIn (a : S8x96x112x112.Idx → Elt F .f32) : S768x112x112.Idx → Elt F .f32 :=
  shapeCast S768x112x112 a shapeCasts_S8x96x112x112_S768x112x112

/-- The program's result from its first argument. -/
def result (a : S8x96x112x112.Idx → Elt F .f32) : S8x96x224x224.Idx → Elt F .f32 :=
  shapeCast S8x96x224x224 (unp (flatIn a)) shapeCasts_S768x224x224_S8x96x224x224

/-! ## What the call hands out and takes back -/

theorem nSub_zero : (K (F := F)).nSub 0 = 16 := rfl
theorem nCore_zero : (K (F := F)).nCore 0 = 2 := rfl

/-- The call's payloads: the arrays dealt among the tiles, the output at its launch contents and then unpooled. -/
def P : (K (F := F)).Pay (nD := nD) (Val := Elt F) (Name := ℕ) (U := UU) where
  st := fun q d c => match q with | 0 => corePts (flatIn (m (aLoc d))) d (m (oLoc d)) (Fin.cast nCore_zero c)
  dn := fun q d c => match q with | 0 => corePts (flatIn (m (aLoc d))) d (unp (flatIn (m (aLoc d)))) (Fin.cast nCore_zero c)
  go := fun q d c s => match q with | 0 => tilePts (flatIn (m (aLoc d))) d (m (oLoc d)) (Fin.cast nCore_zero c) (Fin.cast nSub_zero s)
  td := fun q d c s => match q with
    | 0 => tilePts (flatIn (m (aLoc d))) d (unp (flatIn (m (aLoc d)))) (Fin.cast nCore_zero c) (Fin.cast nSub_zero s)
  x := fun _ _ => iprop(emp)

instance P_storable : (P (F := F) m).IsStorable where
  st q d c := match q with | 0 => corePts_storable _ _ _ _
  dn q d c := match q with | 0 => corePts_storable _ _ _ _
  go q d c s := match q with | 0 => tilePts_storable _ _ _ _ _
  td q d c s := match q with | 0 => tilePts_storable _ _ _ _ _

/-! ## The tiles' obligation -/

theorem defs₀_vector (c : Fin τ.nSC) (s : Fin τ.nSub) :
    defs₀ (F := F) (.scVector c s) 0 ()
      = SparseCore.onTile hcore0 hsub0 (fun c s => cc0__unpool_sc (tileAt c s)
          mX (Memref.isWhole_whole _) mO (Memref.isWhole_whole _) mI (Memref.isWhole_whole _) mS (Memref.isWhole_whole _) cc0_scratch2 cc0_scratch3) ⟨⟩ c s := rfl

/-- Waits at no index are waits the call allows. -/
theorem allowed {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (task_wp (flatIn (m (aLoc d))) d (tileAt ⟨_, hc.1⟩ ⟨_, hc.2⟩) facts O W hO (tileShare ⟨_, hc.1⟩ ⟨_, hc.2⟩) (m (oLoc d))).trans
    (wp_mono frame _ _ fun _ => allowed)

theorem vecSplit : (K (F := F)).VecSplit' (P m) 0 := by
  intro d c
  show corePts _ d _ _ ⊢ |={Set.univ}=> iprop(corePts _ d _ _ ∗ (corePts _ d _ _ -∗ corePts _ d _ _))
  iintro H
  imodintro
  isplitl [H]; · iexact H
  iintro H; iexact H

/-! ## The launch element -/

def u₀ : UU := (initOf (K (F := F)).hsCells (K (F := F)).hsToks, 1)

theorem emps {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (F := F) (initOf (K (F := F)).hsCells (K (F := F)).hsToks)) ∗ (bigSep Finset.univ fun _ : Dev nD => iprop(emp))
        ∗ bigSep Finset.univ fun t : Thread nD τ => bigSep Finset.univ fun q : Fin 1 => (P m).x q t) := by
  unfold u₀
  iintro Hu
  ihave H := (ownU_pair _ _) $$ Hu
  icases H with ⟨HH, -⟩
  imodintro
  isplitl [HH]; · iexact HH
  isplitr; · rw [emps]; iempintro
  unfold P; dsimp only
  rw [show (bigSep Finset.univ fun _ : Thread nD τ => bigSep Finset.univ fun _ : Fin 1 => (iprop(emp) : sProp 𝕄)) = iprop(emp) from by
    rw [bigSep_congr fun _ _ => emps _, emps]]
  iempintro

/-! ## @main on the TensorCore -/

abbrev a' : DevRef τ sig := Proc.devRef .tc (main_arg0 : Ref sig .tc)
abbrev i' : DevRef τ sig := Proc.devRef .tc (main_arg1 : Ref sig .tc)
abbrev x' : DevRef τ sig := Proc.devRef .tc (main_v0 : Ref sig .tc)
abbrev o' : DevRef τ sig := Proc.devRef .tc (main_v1 : Ref sig .tc)
abbrev r' : DevRef τ sig := Proc.devRef .tc (main_v2 : Ref sig .tc)

/-- The two reshapes. -/
abbrev opIn : HloOp τ sig (Elt F) := StableHlo.reshape main_arg0 main_v0 (rfl : (.f32 : EltTy) = .f32) shapeCasts_S8x96x112x112_S768x112x112
abbrev opOut : HloOp τ sig (Elt F) := StableHlo.reshape main_v1 main_v2 (rfl : (.f32 : EltTy) = .f32) shapeCasts_S768x224x224_S8x96x224x224

/-- The TensorCore's arrays. -/
abbrev arrs : Finset (DevRef τ sig) := {a', i', x', o', r'}

theorem held_arrs (d : Dev nD) (W : Valuation τ sig (Elt F)) :
    (held (SparseCore.T d) arrs W : sProp 𝕄)
      = iprop((aLoc d ↦{fullShare} W a') ∗ (iLoc d ↦{fullShare} W i') ∗ (xLoc d ↦{fullShare} W x') ∗ (oLoc d ↦{fullShare} W o') ∗ rLoc d ↦{fullShare} W r') := by
  unfold held arrs
  rw [SparseCore.bigSep_insert' (by decide), SparseCore.bigSep_insert' (by decide), SparseCore.bigSep_insert' (by decide),
    SparseCore.bigSep_insert' (by decide), bigSep_singleton]

/-- The launch's valuation, and the one after the call. -/
def V0 (d : Dev nD) : Valuation τ sig (Elt F) := fun b => m (d, b)
def V2 (d : Dev nD) : Valuation τ sig (Elt F) := Function.update ((opIn (F := F)).result (V0 m d)) o' (unp (flatIn (m (aLoc d))))

theorem unscoped_held (d : Dev nD) : (unscopedBufs d (fun b => m ((SparseCore.T d).loc b)) : sProp 𝕄) = held (SparseCore.T d) arrs (V0 m d) := by
  rw [held_arrs]
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]
  rfl

theorem in_x (d : Dev nD) : (opIn (F := F)).result (V0 m d) x' = flatIn (m (aLoc d)) := StableHlo.reshape_result main_arg0 main_v0 _ _ _ _ _
theorem in_ne (d : Dev nD) {r : Ref sig .tc} (h : r ≠ main_v0) : (opIn (F := F)).result (V0 m d) (Proc.devRef .tc r) = m ((SparseCore.T d).loc r) :=
  StableHlo.reshape_result_ne main_arg0 main_v0 _ _ _ _ _ h

theorem V2_o (d : Dev nD) : V2 m d o' = unp (flatIn (m (aLoc d))) := Function.update_self _ _ _
theorem V2_ne (d : Dev nD) {b : DevRef τ sig} (h : b ≠ o') : V2 m d b = (opIn (F := F)).result (V0 m d) b := Function.update_of_ne h _ _

theorem out_r (d : Dev nD) : (opOut (F := F)).result (V2 m d) r' = result (m (aLoc d)) := by
  refine (StableHlo.reshape_result main_v1 main_v2 _ _ _ _ _).trans ?_
  rw [V2_o]
  rfl

theorem out_a (d : Dev nD) : (opOut (F := F)).result (V2 m d) a' = m (aLoc d) :=
  (StableHlo.reshape_result_ne main_v1 main_v2 _ _ _ _ _ (by decide)).trans ((V2_ne m d (by decide)).trans (in_ne m d (by decide)))
theorem out_i (d : Dev nD) : (opOut (F := F)).result (V2 m d) i' = m (iLoc d) :=
  (StableHlo.reshape_result_ne main_v1 main_v2 _ _ _ _ _ (by decide)).trans ((V2_ne m d (by decide)).trans (in_ne m d (by decide)))

theorem hIn : (opIn (F := F)).bufs ⊆ arrs := show ({a', x'} : Finset (DevRef τ sig)) ⊆ arrs by decide
theorem hOut : (opOut (F := F)).bufs ⊆ arrs := show ({o', r'} : Finset (DevRef τ sig)) ⊆ arrs by decide

/-- What @main leaves the claim: the arguments as they were, the result the input unpooled. -/
abbrev FIN (d : Dev nD) : sProp 𝕄 :=
  iprop((aLoc d ↦{fullShare} m (aLoc d)) ∗ (iLoc d ↦{fullShare} m (iLoc d)) ∗ rLoc d ↦{fullShare} result (m (aLoc d)))

/-- What the call hands back is the two arrays whole, the output unpooled. -/
theorem back (d : Dev nD) :
    (bigSep Finset.univ fun c : Fin ((K (F := F)).nCore 0) => (P m).dn 0 d c)
      ⊢ (iprop((xLoc d ↦{fullShare} flatIn (m (aLoc d))) ∗ oLoc d ↦{fullShare} unp (flatIn (m (aLoc d)))) : sProp 𝕄) := by
  rw [dealt]
  exact .rfl

/-- @main on device `d`'s TensorCore. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  -- the input's images flattened
  iapply (wp_hlo_within 𝒱 (SparseCore.T d) none Set.univ (op := opIn) (S := arrs) hIn (V := V0 m d)) $$ [Hb Hheld]
  · isplitl [Hb] <;> iassumption
  iintro ⟨Hb, Hheld⟩
  ihave Hh := (Entails.of_eq (held_arrs (F := F) d _)) $$ Hheld
  icases Hh with ⟨Ha, Hi, Hx, Ho, Hr⟩
  rw [wp_ret]; imodintro
  -- the call: the arrays dealt among the tiles and back
  have ho := in_ne m d (r := main_v1) (by decide)
  rw [in_x m d, ho]
  ihave Hd := (Entails.of_eq (dealt d (flatIn (m (aLoc d))) (m (oLoc d)))) $$ [Hx Ho]
  · isplitl [Hx] <;> iassumption
  iapply ((K (F := F)).wp_run (D (F := F)) 𝒱 (EH := EH) (P := P m) κ d 0) $$ [Hst Hd Hb Ha Hi Hr Hts]
  isplitr; · iexact Hctx
  isplitl [Hst]; · iexact Hst
  isplitl [Hd]; · iexact Hd
  iintro ⟨Hst, Hdn⟩
  ihave Hdn' := (back m d) $$ Hdn
  icases Hdn' with ⟨Hx, Ho⟩
  -- the result's images given their axes back
  iapply (wp_hlo_within 𝒱 (SparseCore.T d) none Set.univ (op := opOut) (S := arrs) hOut (V := V2 m d)) $$ [Hb Ha Hi Hx Ho Hr]
  · isplitl [Hb]; · iexact Hb
    rw [held_arrs, V2_o, V2_ne m d (b := a') (by decide), V2_ne m d (b := i') (by decide), V2_ne m d (b := x') (by decide), V2_ne m d (b := r') (by decide), in_x]
    isplitl [Ha]; · iexact Ha
    isplitl [Hi]; · iexact Hi
    isplitl [Hx]; · iexact Hx
    isplitl [Ho]; · iexact Ho
    iexact Hr
  iintro ⟨Hb, Hheld⟩
  ihave Hh := (Entails.of_eq (held_arrs (F := F) d _)) $$ Hheld
  rw [out_r, out_a, out_i]
  icases Hh with ⟨Ha, Hi, -, -, Hr⟩
  rw [wp_ret]; imodintro; imodintro
  isplitl [Hst]; · iexact Hst
  isplitr [Hb Hts]
  · isplitl [Ha]; · iexact Ha
    isplitl [Hi] <;> iassumption
  isplitl [Hb] <;> iassumption

/-! ## The program's run -/

/-- What the final memory holds on device `d`. -/
def fq (d : Dev nD) (s' : Phys nD τ sig (Elt F)) : Prop :=
  s'.mem.mem (aLoc d) = m (aLoc d) ∧ s'.mem.mem (iLoc d) = m (iLoc d) ∧ s'.mem.mem (rLoc d) = result (m (aLoc d))

/-- A buffer held whole at `f` is `f` in the memory, and is still held. -/
theorem agree (s' : Phys nD τ sig (Elt F)) (ℓ : Loc nD τ sig) (f : Buf (Elt F) ℓ) :
    iprop((ℓ ↦{fullShare} f) ∗ SI s') ⊢ (iprop(⌜s'.mem.mem ℓ = f⌝ ∗ SI s') : sProp 𝕄) := by
  have h : iprop(SI s' ∗ ℓ ↦{fullShare} f) ⊢ (⌜s'.mem.mem ℓ = f⌝ : sProp 𝕄) :=
    (SI_pointsTo_agree (st := s') (ℓ := ℓ) (I := Finset.univ) (q := fullShare) (f := f)).trans
      (Laws.pure_mono fun hx => funext fun y => hx y (Finset.mem_univ y))
  iintro ⟨H, HSI⟩
  ihave H2 := (persistent_entails_right h) $$ [HSI H]
  · isplitl [HSI] <;> iassumption
  icases H2 with ⟨%e, ⟨HSI, -⟩⟩
  isplitr
  · ipureintro; exact e
  · iexact HSI

theorem hfin (d : Dev nD) (s' : Phys nD τ sig (Elt F)) : iprop(FIN m d ∗ SI s') ⊢ (⌜fq m d s'⌝ : sProp 𝕄) := by
  iintro ⟨⟨Ha, Hi, Hr⟩, HSI⟩
  ihave H := (agree s' _ _) $$ [Ha HSI]
  · isplitl [Ha] <;> iassumption
  icases H with ⟨%ha, HSI⟩
  ihave H := (agree s' _ _) $$ [Hi HSI]
  · isplitl [Hi] <;> iassumption
  icases H with ⟨%hi, HSI⟩
  ihave H := (agree s' _ _) $$ [Hr HSI]
  · isplitl [Hr] <;> iassumption
  icases H with ⟨%hr, HSI⟩
  ipureintro
  exact ⟨ha, hi, hr⟩

/-- How the program ends. -/
def Ends : PUnit × MemSt nD τ sig (Elt F) → Prop := fun r =>
  (∀ c : Dev nD, r.2.mem (aLoc c) = m (aLoc c) ∧ r.2.mem (iLoc c) = m (iLoc c) ∧ r.2.mem (rLoc c) = result (m (aLoc c))) ∧ r.2.sem = fun _ => 0

theorem run_main [∀ e, Nonempty (Elt F e)] : θ_run (Cert.KernelIdeal.defs (F := F)) (Cert.KernelIdeal.threads (F := F)) ⟨m, fun _ => 0, ρ⟩ (Ends m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (Ends m) (fun _ h hz => ⟨h, hz⟩)

end Cert.Proof.Unpool
-- ==== Proof.Pre.lean ====
/-
  What the precondition says of the indices: word (i, j) is 448 i + 2 j, the flat position of row 2 i, column 2 j of a
  224 × 224 image.
-/
module

public import proofs.«01_k».proof.Proof.Gen.Pre_fixed_indices
public import Idealize.ShloMosaic.Lib.ReduceAll
public import Idealize.ShloMosaic.Lib.Affine

@[expose] public section

noncomputable section

namespace Cert.Proof.Unpool

open Idealize.ShloMosaic Cert.Pre_fixed_indices Cert.Pre_fixed_indices.Gen

variable {F : FTy → Type} [FloatOps F]

/-- The word the precondition compares an index with, computed in 32-bit words, is the plain number. -/
theorem word_eq (a b : ℕ) (ha : a < 112) (hb : b < 112) :
    BitVec.ofNat 32 a * 2#32 * 2#32 * 112#32 + BitVec.ofNat 32 b * 2#32 = BitVec.ofNat 32 (448 * a + 2 * b) := by
  apply BitVec.eq_of_toNat_eq
  simp only [BitVec.toNat_add, BitVec.toNat_mul, BitVec.toNat_ofNat]
  omega

/-- Under the precondition, index (i, j) is 448 i + 2 j. -/
theorem pre_word (x : FVec F S8x96x112x112 .f32) (idx : IVec S112x112 32) (h : Cert.Pre_fixed_indices.fn x idx = fun _ => 1#1)
    (y : S112x112.Idx) : idx y = BitVec.ofNat 32 (448 * (y 0).val + 2 * (y 1).val) := by
  haveI : Subsingleton S_.Idx := ⟨fun a b => funext fun q => q.elim0⟩
  have e := IntOp.cmpi_eq.1 (Host.reduce_andi_all _ _ _ _ (fun q => q.elim0) (congrFun h fun q => q.elim0) y)
  exact e.trans (word_eq _ _ (y 0).isLt (y 1).isLt)

end Cert.Proof.Unpool

end
-- ==== Proof.Ref.lean ====
/-
  The reference's scatter: where each update lands, and its value at every index when the index words are those of the
  precondition.
-/
module

public import proofs.«01_k».proof.Proof.Launch
public import proofs.«01_k».proof.Proof.Pre
public import proofs.«01_k».proof.Proof.Gen.ReferenceIdeal.Run
public import Idealize.ShloMosaic.Lib.Routing.OpsSet
public import Idealize.ShloMosaic.Lib.Pipeline.Value

@[expose] public section

noncomputable section

namespace Cert.Proof.Unpool.Ref

open Cert.ReferenceIdeal Cert.ReferenceIdeal.Gen
open Idealize.ShloMosaic Idealize.ShloMosaic.Routing

variable {F : FTy → Type} [FloatOps F]

/-- The reference's scatter: a block of batches and channels per update, into the flattened image axis. -/
abbrev dims : ScatterDims S8x96x50176 S12544x1 S8x96x12544 := scatter_S8x96x50176_S12544x1_S8x96x12544_01_2_2_1

theorem window0 (k : S8x96x12544.Idx) : dims.window k 0 = (k 0).val := rfl
theorem window1 (k : S8x96x12544.Idx) : dims.window k 1 = (k 1).val := rfl
theorem window2 (k : S8x96x12544.Idx) : dims.window k 2 = 0 := rfl
theorem start0 (k : S8x96x12544.Idx) (w : IVec S12544x1 32) : dims.start k w 0 = 0 := rfl
theorem start1 (k : S8x96x12544.Idx) (w : IVec S12544x1 32) : dims.start k w 1 = 0 := rfl

theorem start2 (k : S8x96x12544.Idx) (w : IVec S12544x1 32) : dims.start k w 2 = (w (ValueIdx.ix2 (k 2) 0)).toInt := by
  unfold ScatterDims.start
  rw [dif_pos (by decide)]
  refine congrArg (fun z => (w z).toInt) ?_
  funext b
  apply Fin.ext
  fin_cases b <;> rfl

/-- Update `k` lands at `ι` when it is of the same batch and channel and its index word is `ι`'s flat position. -/
theorem lands (k : S8x96x12544.Idx) (w : IVec S12544x1 32) (ι : S8x96x50176.Idx) :
    dims.resultIdx? k w = some ι ↔
      (k 0).val = (ι 0).val ∧ (k 1).val = (ι 1).val ∧ (w (ValueIdx.ix2 (k 2) 0)).toInt = ((ι 2).val : Int) := by
  rw [resultIdx?_eq_some]
  constructor
  · intro h
    have h0 := h 0
    have h1 := h 1
    have h2 := h 2
    rw [start0, window0] at h0
    rw [start1, window1] at h1
    rw [start2, window2] at h2
    exact ⟨by omega, by omega, by omega⟩
  · rintro ⟨h0, h1, h2⟩ a
    fin_cases a
    · show dims.start k w 0 + (dims.window k 0 : Int) = ((ι 0).val : Int)
      rw [start0, window0]; omega
    · show dims.start k w 1 + (dims.window k 1 : Int) = ((ι 1).val : Int)
      rw [start1, window1]; omega
    · show dims.start k w 2 + (dims.window k 2 : Int) = ((ι 2).val : Int)
      rw [start2, window2]; omega

/-- The index words as the scatter takes them: flattened, a negative one wrapped around the image. -/
def words (idx : IVec S112x112 32) : IVec S12544x1 32 :=
  broadcastInDim S12544x1 ![0] bcast_S12544_S12544x1_0
    (select (cmpi .slt (shapeCast _ idx shapeCasts_S112x112_S12544) (broadcastInDim S12544 ![] bcast_S_S12544 (constantI S_ 32 0#32)))
      (addi (shapeCast _ idx shapeCasts_S112x112_S12544) (broadcastInDim S12544 ![] bcast_S_S12544 (constantI S_ 32 50176#32)))
      (shapeCast _ idx shapeCasts_S112x112_S12544))

/-- The reference's result from its two arguments. -/
def value (x : S8x96x112x112.Idx → Elt F .f32) (idx : IVec S112x112 32) : S8x96x224x224.Idx → Elt F .f32 :=
  shapeCast _ (Host.scatter dims (fun _ b => b) (broadcastInDim S8x96x50176 ![] bcast_S_S8x96x50176 (constant S_ .f32 0x00000000#32))
    (words idx) (shapeCast _ x shapeCasts_S8x96x112x112_S8x96x12544)) shapeCasts_S8x96x50176_S8x96x224x224

/-- A small number as a word reads back signed. -/
theorem toInt_small (n : ℕ) (h : n < 50176) : (BitVec.ofNat 32 n).toInt = (n : Int) := by
  have e : (BitVec.ofNat 32 n).toNat = n := by simp only [BitVec.toNat_ofNat]; omega
  rw [BitVec.toInt_eq_toNat_of_lt (by omega), e]

/-- The index word of flat position `p` is that of row `2 (p / 112)`, column `2 (p % 112)`. -/
theorem words_eq (idx : IVec S112x112 32) (h : ∀ y : S112x112.Idx, idx y = BitVec.ofNat 32 (448 * (y 0).val + 2 * (y 1).val))
    (p : Fin 12544) : (words idx (ValueIdx.ix2 p 0)).toInt = ((448 * (p.val / 112) + 2 * (p.val % 112) : ℕ) : Int) := by
  have hc : ∀ j : S12544.Idx, (j 0).val = p.val →
      shapeCast S12544 idx shapeCasts_S112x112_S12544 j = BitVec.ofNat 32 (448 * (p.val / 112) + 2 * (p.val % 112)) := by
    intro j hj
    rw [shapeCast_apply idx shapeCasts_S112x112_S12544 j (ValueIdx.ix2 ⟨p.val / 112, by omega⟩ ⟨p.val % 112, by omega⟩)
      (by
        rw [Shape.rowMajor_val_two, Shape.rowMajor_val_one, hj]
        show p.val / 112 * 112 + p.val % 112 = p.val
        omega)]
    exact h _
  have hs := toInt_small (448 * (p.val / 112) + 2 * (p.val % 112)) (by omega)
  show (Scalar.select (IntOp.cmpi .slt (shapeCast S12544 idx shapeCasts_S112x112_S12544 _) 0#32) _ (shapeCast S12544 idx shapeCasts_S112x112_S12544 _)).toInt = _
  rw [hc _ rfl]
  have hn : IntOp.cmpi .slt (BitVec.ofNat 32 (448 * (p.val / 112) + 2 * (p.val % 112))) 0#32 = 0#1 := by
    rcases BitVec.eq_zero_or_eq_one (IntOp.cmpi .slt (BitVec.ofNat 32 (448 * (p.val / 112) + 2 * (p.val % 112))) 0#32) with e | e
    · exact e
    · have := IntOp.cmpi_slt.1 e
      rw [hs] at this
      simp at this
      omega
  rw [hn, ValueIdx.select_zero]
  exact hs

/-- The flattened updates at flat position `p` read the input at row `p / 112`, column `p % 112`. -/
theorem upd_eq (x : S8x96x112x112.Idx → Elt F .f32) (k : S8x96x12544.Idx) (n : Fin 8) (c : Fin 96) (i j : Fin 112)
    (hn : (k 0).val = n.val) (hc : (k 1).val = c.val) (hp : (k 2).val = i.val * 112 + j.val) :
    shapeCast S8x96x12544 x shapeCasts_S8x96x112x112_S8x96x12544 k = x (ValueIdx.ix4 n c i j) := by
  refine shapeCast_apply x _ k _ ?_
  rw [Shape.rowMajor_val_four, Shape.rowMajor_val_three, hn, hc, hp]
  show ((n.val * 96 + c.val) * 112 + i.val) * 112 + j.val = (n.val * 96 + c.val) * 12544 + (i.val * 112 + j.val)
  omega

/-- The scatter at flat position `r * 224 + c`: the input's pixel where both coordinates are even, the zero elsewhere. -/
theorem scatter_eq (x : S8x96x112x112.Idx → Elt F .f32) (idx : IVec S112x112 32)
    (h : ∀ y : S112x112.Idx, idx y = BitVec.ofNat 32 (448 * (y 0).val + 2 * (y 1).val))
    (n : Fin 8) (a : Fin 96) (r c : Fin 224) (ι : S8x96x50176.Idx) (h0 : (ι 0).val = n.val) (h1 : (ι 1).val = a.val)
    (h2 : (ι 2).val = r.val * 224 + c.val) :
    Host.scatter dims (fun _ b => b) (broadcastInDim S8x96x50176 ![] bcast_S_S8x96x50176 (constant S_ .f32 0x00000000#32))
        (words idx) (shapeCast S8x96x12544 x shapeCasts_S8x96x112x112_S8x96x12544) ι
      = if r.val % 2 = 0 ∧ c.val % 2 = 0 then x (ValueIdx.ix4 n a ⟨r.val / 2, by omega⟩ ⟨c.val / 2, by omega⟩) else z0 := by
  have land : ∀ k : S8x96x12544.Idx, dims.resultIdx? k (words idx) = some ι ↔
      (k 0).val = n.val ∧ (k 1).val = a.val ∧ 448 * ((k 2).val / 112) + 2 * ((k 2).val % 112) = r.val * 224 + c.val := by
    intro k
    rw [lands, words_eq idx h (k 2), h0, h1, h2]
    exact and_congr_right fun _ => and_congr_right fun _ => Int.ofNat_inj
  split
  · next e =>
    refine scatter_set_hit dims _ _ _ _ _ (fun k hk => ?_)
      (ValueIdx.ix3 n a ⟨r.val / 2 * 112 + c.val / 2, by omega⟩) ((land _).2 ⟨rfl, rfl, ?_⟩)
    · obtain ⟨k0, k1, k2⟩ := (land k).1 hk
      refine upd_eq x k _ _ _ _ k0 k1 ?_
      show (k 2).val = r.val / 2 * 112 + c.val / 2
      omega
    · show 448 * ((r.val / 2 * 112 + c.val / 2) / 112) + 2 * ((r.val / 2 * 112 + c.val / 2) % 112) = _
      omega
  · next e =>
    refine scatter_set_miss dims _ _ _ _ fun k hk => e ?_
    obtain ⟨-, -, k2⟩ := (land k).1 hk
    omega

/-- The input as the kernel reads it, by coordinates. -/
theorem flatIn_eq (x : S8x96x112x112.Idx → Elt F .f32) (n : Fin 8) (a : Fin 96) (i j : Fin 112) :
    at3 (flatIn x) (n.val * 96 + a.val) i.val j.val = x (ValueIdx.ix4 n a i j) := by
  unfold at3
  rw [dif_pos ⟨by omega, i.isLt, j.isLt⟩]
  refine shapeCast_apply x _ _ _ ?_
  rw [Shape.rowMajor_val_four, Shape.rowMajor_val_three]
  rfl

/-- The kernel's result, by coordinates. -/
theorem result_eq (x : S8x96x112x112.Idx → Elt F .f32) (n : Fin 8) (a : Fin 96) (r c : Fin 224) :
    result x (ValueIdx.ix4 n a r c)
      = if r.val % 2 = 0 ∧ c.val % 2 = 0 then x (ValueIdx.ix4 n a ⟨r.val / 2, by omega⟩ ⟨c.val / 2, by omega⟩) else z0 := by
  refine (shapeCast_apply (unp (flatIn x)) _ (ValueIdx.ix4 n a r c) (ValueIdx.ix3 ⟨n.val * 96 + a.val, by omega⟩ r c) ?_).trans ?_
  · rw [Shape.rowMajor_val_four, Shape.rowMajor_val_three]
    rfl
  · show want (flatIn x) (n.val * 96 + a.val) r.val c.val = _
    unfold want
    split
    · exact flatIn_eq x n a ⟨r.val / 2, by omega⟩ ⟨c.val / 2, by omega⟩
    · rfl

/-- Under the precondition's indices the reference and the kernel compute the same array. -/
theorem value_eq (x : S8x96x112x112.Idx → Elt F .f32) (idx : IVec S112x112 32)
    (h : ∀ y : S112x112.Idx, idx y = BitVec.ofNat 32 (448 * (y 0).val + 2 * (y 1).val)) : value x idx = result x := by
  funext y
  obtain ⟨n, a, r, c, rfl⟩ : ∃ (n : Fin 8) (a : Fin 96) (r c : Fin 224), y = ValueIdx.ix4 n a r c :=
    ⟨y 0, y 1, y 2, y 3, ValueIdx.eq_ix4 y⟩
  refine Eq.trans ?_ (result_eq x n a r c).symm
  refine (shapeCast_apply _ _ (ValueIdx.ix4 n a r c) (ValueIdx.ix3 n a ⟨r.val * 224 + c.val, by omega⟩) ?_).trans
    (scatter_eq x idx h n a r c _ rfl rfl rfl)
  rw [Shape.rowMajor_val_four, Shape.rowMajor_val_three]
  show (n.val * 96 + a.val) * 50176 + (r.val * 224 + c.val) = ((n.val * 96 + a.val) * 224 + r.val) * 224 + c.val
  omega

end Cert.Proof.Unpool.Ref

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_fixed_indices
public import proofs.«01_k».proof.Proof.Launch
public import proofs.«01_k».proof.Proof.Ref
public import Idealize.ShloMosaic.Adequacy
public import Idealize.ShloMosaic.Init

@[expose] public section

noncomputable section

namespace Cert.Proof

open Idealize.ShloMosaic Idealize.SL.Sem

/-- `Cert.quiescent_Kernel`: the kernel's run, at the bit-exact floats. -/
theorem frame_kernel : Cert.quiescent_Kernel := fun m ρ _ =>
  (θ_run Cert.KernelIdeal.defs _ _).mono (fun _ h => ⟨fun c => ⟨(h.1 c).1, (h.1 c).2.1⟩, h.2⟩) (Unpool.run_main (F := Bits) m ρ)

/-- `Cert.quiescent_KernelIdeal`: the same run, at the ideal floats. -/
theorem frame_ideal : Cert.quiescent_KernelIdeal := fun m ρ _ =>
  (θ_run Cert.KernelIdeal.defs _ _).mono (fun _ h => ⟨fun c => ⟨(h.1 c).1, (h.1 c).2.1⟩, h.2⟩) (Unpool.run_main (F := Ideal) m ρ)

/-- The same under the precondition, which the frame does not need. -/
theorem frame_ideal_pre : Cert.quiescent_KernelIdeal_pre_fixed_indices := fun m ρ _ => frame_ideal m ρ trivial

/-- `Cert.quiescent_ReferenceIdeal`: the reference's operations write neither argument, and it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same under the precondition, which the frame does not need. -/
theorem frame_reference_pre : Cert.quiescent_ReferenceIdeal_pre_fixed_indices := fun m ρ _ => frame_reference m ρ trivial

/-- `Cert.algebraic_KernelIdeal_ReferenceIdeal_pre_fixed_indices`: the shared value is the input unpooled, which the
    kernel computes at every input and the reference at the precondition's indices. -/
theorem algebraic : Cert.algebraic_KernelIdeal_ReferenceIdeal_pre_fixed_indices := fun m ρ m' ρ' hpre hagree =>
  ⟨fun c => Unpool.result (m (Unpool.aLoc c)),
    (θ_run Cert.KernelIdeal.defs _ _).mono (fun _ h c => ⟨(h.1 c).2.2, (h.1 c).1, (h.1 c).2.1⟩) (Unpool.run_main (F := Ideal) m ρ),
    (θ_run Cert.ReferenceIdeal.defs _ _).mono (fun _ h c => ⟨(h c).1.trans
      ((congrArg₂ Unpool.Ref.value (hagree c).1 (hagree c).2).trans (Unpool.Ref.value_eq _ _ (Unpool.pre_word _ _ (hpre c)))), (h c).2⟩)
      (Cert.ReferenceIdeal.Value.run (F := Ideal) m' ρ')⟩

theorem claim : Cert.Claim :=
  ⟨Cert.Kernel.Gen.facts, Cert.KernelIdeal.Gen.facts, Cert.ReferenceIdeal.Gen.facts, Cert.Pre_fixed_indices.Gen.facts,
    frame_kernel, frame_ideal, frame_ideal_pre, frame_reference, frame_reference_pre, trivial, algebraic⟩

end Cert.Proof

end
